-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S16x64x32x32 : Shape := ⟨4, ![16, 64, 32, 32]⟩
abbrev S1024x64 : Shape := ⟨2, ![1024, 64]⟩
abbrev S_ : Shape := ⟨0, ![]⟩

class Facts : Prop where
  bcast_S_S16x64x32x32 : S_.BroadcastsInDim S16x64x32x32 (![] : Fin 0 → Fin S16x64x32x32.rank)
  reducesTo_S16x64x32x32_S_d0_1_2_3 : S16x64x32x32.ReducesTo [0, 1, 2, 3] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16x64x32x32 .f32) (main_arg1 : FVec F S1024x64 .f32) : IVec S_ 1 :=
  let main_v0 : FVec F S16x64x32x32 .f32 := Host.absf main_arg0
  let main_cst : FVec F S_ .f32 := constant S_ .f32 0x7F800000#32
  let main_v1 : FVec F S16x64x32x32 .f32 := broadcastInDim S16x64x32x32 ![] bcast_S_S16x64x32x32 main_cst
  let main_v2 : IVec S16x64x32x32 1 := cmpf .olt main_v0 main_v1
  let main_c : IVec S_ 1 := constantI S_ 1 1#1
  let main_v3 : IVec S_ 1 := (fun x v => Host.reduce IntOp.andi x v reducesTo_S16x64x32x32_S_d0_1_2_3 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== KernelIdeal.lean ====
abbrev S16x64x32x32 : Shape := ⟨4, ![16, 64, 32, 32]⟩
abbrev S1024x64 : Shape := ⟨2, ![1024, 64]⟩
abbrev S16x64x1024 : Shape := ⟨3, ![16, 64, 1024]⟩
abbrev S_ : Shape := ⟨0, ![]⟩
abbrev S1024 : Shape := ⟨1, ![1024]⟩
abbrev S1024x1 : Shape := ⟨2, ![1024, 1]⟩
abbrev S16x32x32x64 : Shape := ⟨4, ![16, 32, 32, 64]⟩
abbrev S16384x64 : Shape := ⟨2, ![16384, 64]⟩
abbrev S16384 : Shape := ⟨1, ![16384]⟩
abbrev S16x1x1024 : Shape := ⟨3, ![16, 1, 1024]⟩
abbrev S8x1x1024 : Shape := ⟨3, ![8, 1, 1024]⟩
abbrev S1x1 : Shape := ⟨2, ![1, 1]⟩
abbrev S64x1024 : Shape := ⟨2, ![64, 1024]⟩
abbrev S1x64x512 : Shape := ⟨3, ![1, 64, 512]⟩
abbrev S1x1x512 : Shape := ⟨3, ![1, 1, 512]⟩
abbrev S64x512 : Shape := ⟨2, ![64, 512]⟩
abbrev S1x512 : Shape := ⟨2, ![1, 512]⟩
abbrev S256x64 : Shape := ⟨2, ![256, 64]⟩
abbrev S256x512 : Shape := ⟨2, ![256, 512]⟩
abbrev S256x1 : Shape := ⟨2, ![256, 1]⟩
abbrev S512 : Shape := ⟨1, ![512]⟩
abbrev S1 : Shape := ⟨1, ![1]⟩
abbrev S8x64x1024 : Shape := ⟨3, ![8, 64, 1024]⟩
abbrev S16x1024 : Shape := ⟨2, ![16, 1024]⟩
abbrev S1x1x1024 : Shape := ⟨3, ![1, 1, 1024]⟩
abbrev S16 : Shape := ⟨1, ![16]⟩
abbrev S1x16 : Shape := ⟨2, ![1, 16]⟩
abbrev S1x16x1024 : Shape := ⟨3, ![1, 16, 1024]⟩

abbrev nBuf : Table → Nat
  | .hbm => 27
  | .local .tc .vmem => 19
  | .local .scVector .vmem => 6
  | _ => 0

abbrev bufTy : (tb : Table) → Fin (nBuf tb) → BufTy
  | .hbm, ⟨0, _⟩ => ⟨S16x64x32x32, .f32⟩
  | .hbm, ⟨1, _⟩ => ⟨S1024x64, .f32⟩
  | .hbm, ⟨2, _⟩ => ⟨S16x64x1024, .f32⟩
  | .hbm, ⟨3, _⟩ => ⟨S1024x64, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S16x32x32x64, .f32⟩
  | .hbm, ⟨8, _⟩ => ⟨S16384x64, .f32⟩
  | .hbm, ⟨9, _⟩ => ⟨S16384x64, .f32⟩
  | .hbm, ⟨10, _⟩ => ⟨S_, .f32⟩
  | .hbm, ⟨11, _⟩ => ⟨S16384, .f32⟩
  | .hbm, ⟨12, _⟩ => ⟨S16x1x1024, .f32⟩
  | .hbm, ⟨13, _⟩ => ⟨S8x1x1024, .i32⟩
  | .hbm, ⟨14, _⟩ => ⟨S1x1, .f32⟩
  | .hbm, ⟨15, _⟩ => ⟨S64x1024, .f32⟩
  | .hbm, ⟨16, _⟩ => ⟨S8x1x1024, .i32⟩
  | .hbm, ⟨17, _⟩ => ⟨S1x1, .f32⟩
  | .hbm, ⟨18, _⟩ => ⟨S8x64x1024, .f32⟩
  | .hbm, ⟨19, _⟩ => ⟨S8x64x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16x64x1024, .f32⟩
  | .hbm, ⟨26, _⟩ => ⟨S16x64x32x32, .f32⟩
  | .local .tc .vmem, ⟨0, _⟩ => ⟨S1x64x512, .f32⟩
  | .local .tc .vmem, ⟨1, _⟩ => ⟨S1x64x512, .f32⟩
  | .local .tc .vmem, ⟨2, _⟩ => ⟨S1024x64, .f32⟩
  | .local .tc .vmem, ⟨3, _⟩ => ⟨S1024x1, .f32⟩
  | .local .tc .vmem, ⟨4, _⟩ => ⟨S1x1x512, .f32⟩
  | .local .tc .vmem, ⟨5, _⟩ => ⟨S1x1x512, .f32⟩
  | .local .tc .vmem, ⟨6, _⟩ => ⟨S1x1x512, .i32⟩
  | .local .tc .vmem, ⟨7, _⟩ => ⟨S1x1x512, .i32⟩
  | .local .tc .vmem, ⟨8, _⟩ => ⟨S1x1, .f32⟩
  | .local .tc .vmem, ⟨9, _⟩ => ⟨S64x1024, .f32⟩
  | .local .tc .vmem, ⟨10, _⟩ => ⟨S1x64x512, .f32⟩
  | .local .tc .vmem, ⟨11, _⟩ => ⟨S1x64x512, .f32⟩
  | .local .tc .vmem, ⟨12, _⟩ => ⟨S1024x64, .f32⟩
  | .local .tc .vmem, ⟨13, _⟩ => ⟨S1024x1, .f32⟩
  | .local .tc .vmem, ⟨14, _⟩ => ⟨S1x1x512, .f32⟩
  | .local .tc .vmem, ⟨15, _⟩ => ⟨S1x1x512, .f32⟩
  | .local .tc .vmem, ⟨16, _⟩ => ⟨S1x1x512, .i32⟩
  | .local .tc .vmem, ⟨17, _⟩ => ⟨S1x1x512, .i32⟩
  | .local .tc .vmem, ⟨18, _⟩ => ⟨S1x1, .f32⟩
  | .local .scVector .vmem, ⟨0, _⟩ => ⟨S1024, .i32⟩
  | .local .scVector .vmem, ⟨1, _⟩ => ⟨S16x1024, .f32⟩
  | .local .scVector .vmem, ⟨2, _⟩ => ⟨S16x1024, .f32⟩
  | .local .scVector .vmem, ⟨3, _⟩ => ⟨S1024, .i32⟩
  | .local .scVector .vmem, ⟨4, _⟩ => ⟨S16x1024, .f32⟩
  | .local .scVector .vmem, ⟨5, _⟩ => ⟨S16x1024, .f32⟩
  | _, _ => ⟨S16x64x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | ⟨22, _⟩ => false
  | ⟨23, _⟩ => false
  | ⟨24, _⟩ => false
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v9_2_scv : Ref sig .scVector := ⟨.hbm, 15, rfl⟩
abbrev main_v9_0_scv : Ref sig .scVector := ⟨.hbm, 13, rfl⟩
abbrev main_v11_scv : Ref sig .scVector := ⟨.hbm, 18, rfl⟩
abbrev main_v10_0_scv : Ref sig .scVector := ⟨.hbm, 16, rfl⟩
abbrev main_v12_scv : Ref sig .scVector := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg0 : BitVec 32 := BitVec.ofNat 32 (i 0).val
  let c0_i32_47 : BitVec 32 := 0#32
  let v111 : BitVec 1 := Scalar.cmpi .eq arg0 c0_i32_47
  let arg1 : BitVec 32 := BitVec.ofNat 32 (i 1).val
  let c0_i32_48 : BitVec 32 := 0#32
  let v112 : BitVec 1 := Scalar.cmpi .eq arg1 c0_i32_48
  let v113 : BitVec 1 := Scalar.andi v111 v112
  let v114 : BitVec 32 := Scalar.extui v113
  let c0_i32_49 : BitVec 32 := 0#32
  let v115 : BitVec 1 := Scalar.cmpi .ne v114 c0_i32_49
  v115

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x512 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c0_i32_15_r0 : BitVec 32 := 0#32
  ![v29.toNat, 0]
def k2_off2 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_10 : BitVec 32 := 0#32
  let c0_i32_15_r1 : BitVec 32 := 0#32
  ![v18.toNat, 0, 0]
@[reducible] def k2_t1_loop : Scf.Loop 32 :=
  let c0_i32_12 : BitVec 32 := 0#32
  let c64_i32 : BitVec 32 := 64#32
  let v30 : BitVec 32 := Scalar.addi c0_i32_12 c64_i32
  let c1_i32_13 : BitVec 32 := 1#32
  ⟨c0_i32_12, v30, c1_i32_13⟩
def k2_mult1 (k2_t1 : Fin k2_t1_loop.trips) : BitVec 32 :=
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  v31
def k2_off3 (k2_t1 : Fin k2_t1_loop.trips) : Fin 1 → Nat :=
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v33 : Index := Scalar.indexCast v32
  ![v33.toNat]

def k2_chk1 (v34 : IVec S16 32) (v35 : IVec S16 32) : Prop :=
  (∀ a x, ((![v35, v34] : Fin 2 → IVec S16 32) a x).toNat < S16x1024.size a)
theorem k2_idx1_inb : ∀ (v34 : IVec S16 32) (v35 : IVec S16 32) (k2_hw1 : k2_chk1 v34 v35), ∀ a x, ((![v35, v34] : Fin 2 → IVec S16 32) a x).toNat < S16x1024.size a := fun v34 v35 k2_hw1 => k2_hw1
def k2_off4 (k2_t1 : Fin k2_t1_loop.trips) : Fin 2 → Nat :=
  let c0_i32_17 : BitVec 32 := 0#32
  let v37 : Index := Scalar.indexCast c0_i32_17
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v38 : Index := Scalar.indexCast v32
  ![0, v38.toNat]

def k2_chk2 (v34 : IVec S16 32) (v40 : IVec S16 32) : Prop :=
  (∀ a x, ((![v40, v34] : Fin 2 → IVec S16 32) a x).toNat < S16x1024.size a)
theorem k2_idx2_inb : ∀ (v34 : IVec S16 32) (v40 : IVec S16 32) (k2_hw2 : k2_chk2 v34 v40), ∀ a x, ((![v40, v34] : Fin 2 → IVec S16 32) a x).toNat < S16x1024.size a := fun v34 v40 k2_hw2 => k2_hw2
def k2_off5 (k2_t1 : Fin k2_t1_loop.trips) : Fin 2 → Nat :=
  let c1_i32_19 : BitVec 32 := 1#32
  let v42 : Index := Scalar.indexCast c1_i32_19
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v43 : Index := Scalar.indexCast v32
  ![1, v43.toNat]

def k2_chk3 (v34 : IVec S16 32) (v45 : IVec S16 32) : Prop :=
  (∀ a x, ((![v45, v34] : Fin 2 → IVec S16 32) a x).toNat < S16x1024.size a)
theorem k2_idx3_inb : ∀ (v34 : IVec S16 32) (v45 : IVec S16 32) (k2_hw3 : k2_chk3 v34 v45), ∀ a x, ((![v45, v34] : Fin 2 → IVec S16 32) a x).toNat < S16x1024.size a := fun v34 v45 k2_hw3 => k2_hw3
def k2_off6 (k2_t1 : Fin k2_t1_loop.trips) : Fin 2 → Nat :=
  let c2_i32_21 : BitVec 32 := 2#32
  let v47 : Index := Scalar.indexCast c2_i32_21
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v48 : Index := Scalar.indexCast v32
  ![2, v48.toNat]

def k2_chk4 (v34 : IVec S16 32) (v50 : IVec S16 32) : Prop :=
  (∀ a x, ((![v50, v34] : Fin 2 → IVec S16 32) a x).toNat < S16x1024.size a)
theorem k2_idx4_inb : ∀ (v34 : IVec S16 32) (v50 : IVec S16 32) (k2_hw4 : k2_chk4 v34 v50), ∀ a x, ((![v50, v34] : Fin 2 → IVec S16 32) a x).toNat < S16x1024.size a := fun v34 v50 k2_hw4 => k2_hw4
def k2_off7 (k2_t1 : Fin k2_t1_loop.trips) : Fin 2 → Nat :=
  let c3_i32_22 : BitVec 32 := 3#32
  let v52 : Index := Scalar.indexCast c3_i32_22
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v53 : Index := Scalar.indexCast v32
  ![3, v53.toNat]

def k2_chk5 (v34 : IVec S16 32) (v55 : IVec S16 32) : Prop :=
  (∀ a x, ((![v55, v34] : Fin 2 → IVec S16 32) a x).toNat < S16x1024.size a)
theorem k2_idx5_inb : ∀ (v34 : IVec S16 32) (v55 : IVec S16 32) (k2_hw5 : k2_chk5 v34 v55), ∀ a x, ((![v55, v34] : Fin 2 → IVec S16 32) a x).toNat < S16x1024.size a := fun v34 v55 k2_hw5 => k2_hw5
def k2_off8 (k2_t1 : Fin k2_t1_loop.trips) : Fin 2 → Nat :=
  let c4_i32_24 : BitVec 32 := 4#32
  let v57 : Index := Scalar.indexCast c4_i32_24
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v58 : Index := Scalar.indexCast v32
  ![4, v58.toNat]

def k2_chk6 (v34 : IVec S16 32) (v60 : IVec S16 32) : Prop :=
  (∀ a x, ((![v60, v34] : Fin 2 → IVec S16 32) a x).toNat < S16x1024.size a)
theorem k2_idx6_inb : ∀ (v34 : IVec S16 32) (v60 : IVec S16 32) (k2_hw6 : k2_chk6 v34 v60), ∀ a x, ((![v60, v34] : Fin 2 → IVec S16 32) a x).toNat < S16x1024.size a := fun v34 v60 k2_hw6 => k2_hw6
def k2_off9 (k2_t1 : Fin k2_t1_loop.trips) : Fin 2 → Nat :=
  let c5_i32_25 : BitVec 32 := 5#32
  let v62 : Index := Scalar.indexCast c5_i32_25
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v63 : Index := Scalar.indexCast v32
  ![5, v63.toNat]

def k2_chk7 (v34 : IVec S16 32) (v65 : IVec S16 32) : Prop :=
  (∀ a x, ((![v65, v34] : Fin 2 → IVec S16 32) a x).toNat < S16x1024.size a)
theorem k2_idx7_inb : ∀ (v34 : IVec S16 32) (v65 : IVec S16 32) (k2_hw7 : k2_chk7 v34 v65), ∀ a x, ((![v65, v34] : Fin 2 → IVec S16 32) a x).toNat < S16x1024.size a := fun v34 v65 k2_hw7 => k2_hw7
def k2_off10 (k2_t1 : Fin k2_t1_loop.trips) : Fin 2 → Nat :=
  let c6_i32_26 : BitVec 32 := 6#32
  let v67 : Index := Scalar.indexCast c6_i32_26
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v68 : Index := Scalar.indexCast v32
  ![6, v68.toNat]

def k2_chk8 (v34 : IVec S16 32) (v70 : IVec S16 32) : Prop :=
  (∀ a x, ((![v70, v34] : Fin 2 → IVec S16 32) a x).toNat < S16x1024.size a)
theorem k2_idx8_inb : ∀ (v34 : IVec S16 32) (v70 : IVec S16 32) (k2_hw8 : k2_chk8 v34 v70), ∀ a x, ((![v70, v34] : Fin 2 → IVec S16 32) a x).toNat < S16x1024.size a := fun v34 v70 k2_hw8 => k2_hw8
def k2_off11 (k2_t1 : Fin k2_t1_loop.trips) : Fin 2 → Nat :=
  let c7_i32_27 : BitVec 32 := 7#32
  let v72 : Index := Scalar.indexCast c7_i32_27
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v73 : Index := Scalar.indexCast v32
  ![7, v73.toNat]

def k2_chk9 (v34 : IVec S16 32) (v75 : IVec S16 32) : Prop :=
  (∀ a x, ((![v75, v34] : Fin 2 → IVec S16 32) a x).toNat < S16x1024.size a)
theorem k2_idx9_inb : ∀ (v34 : IVec S16 32) (v75 : IVec S16 32) (k2_hw9 : k2_chk9 v34 v75), ∀ a x, ((![v75, v34] : Fin 2 → IVec S16 32) a x).toNat < S16x1024.size a := fun v34 v75 k2_hw9 => k2_hw9
def k2_off12 (k2_t1 : Fin k2_t1_loop.trips) : Fin 2 → Nat :=
  let c8_i32_28 : BitVec 32 := 8#32
  let v77 : Index := Scalar.indexCast c8_i32_28
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v78 : Index := Scalar.indexCast v32
  ![8, v78.toNat]

def k2_chk10 (v34 : IVec S16 32) (v80 : IVec S16 32) : Prop :=
  (∀ a x, ((![v80, v34] : Fin 2 → IVec S16 32) a x).toNat < S16x1024.size a)
theorem k2_idx10_inb : ∀ (v34 : IVec S16 32) (v80 : IVec S16 32) (k2_hw10 : k2_chk10 v34 v80), ∀ a x, ((![v80, v34] : Fin 2 → IVec S16 32) a x).toNat < S16x1024.size a := fun v34 v80 k2_hw10 => k2_hw10
def k2_off13 (k2_t1 : Fin k2_t1_loop.trips) : Fin 2 → Nat :=
  let c9_i32_29 : BitVec 32 := 9#32
  let v82 : Index := Scalar.indexCast c9_i32_29
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v83 : Index := Scalar.indexCast v32
  ![9, v83.toNat]

def k2_chk11 (v34 : IVec S16 32) (v85 : IVec S16 32) : Prop :=
  (∀ a x, ((![v85, v34] : Fin 2 → IVec S16 32) a x).toNat < S16x1024.size a)
theorem k2_idx11_inb : ∀ (v34 : IVec S16 32) (v85 : IVec S16 32) (k2_hw11 : k2_chk11 v34 v85), ∀ a x, ((![v85, v34] : Fin 2 → IVec S16 32) a x).toNat < S16x1024.size a := fun v34 v85 k2_hw11 => k2_hw11
def k2_off14 (k2_t1 : Fin k2_t1_loop.trips) : Fin 2 → Nat :=
  let c10_i32_30 : BitVec 32 := 10#32
  let v87 : Index := Scalar.indexCast c10_i32_30
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v88 : Index := Scalar.indexCast v32
  ![10, v88.toNat]

def k2_chk12 (v34 : IVec S16 32) (v90 : IVec S16 32) : Prop :=
  (∀ a x, ((![v90, v34] : Fin 2 → IVec S16 32) a x).toNat < S16x1024.size a)
theorem k2_idx12_inb : ∀ (v34 : IVec S16 32) (v90 : IVec S16 32) (k2_hw12 : k2_chk12 v34 v90), ∀ a x, ((![v90, v34] : Fin 2 → IVec S16 32) a x).toNat < S16x1024.size a := fun v34 v90 k2_hw12 => k2_hw12
def k2_off15 (k2_t1 : Fin k2_t1_loop.trips) : Fin 2 → Nat :=
  let c11_i32_31 : BitVec 32 := 11#32
  let v92 : Index := Scalar.indexCast c11_i32_31
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v93 : Index := Scalar.indexCast v32
  ![11, v93.toNat]

def k2_chk13 (v34 : IVec S16 32) (v95 : IVec S16 32) : Prop :=
  (∀ a x, ((![v95, v34] : Fin 2 → IVec S16 32) a x).toNat < S16x1024.size a)
theorem k2_idx13_inb : ∀ (v34 : IVec S16 32) (v95 : IVec S16 32) (k2_hw13 : k2_chk13 v34 v95), ∀ a x, ((![v95, v34] : Fin 2 → IVec S16 32) a x).toNat < S16x1024.size a := fun v34 v95 k2_hw13 => k2_hw13
def k2_off16 (k2_t1 : Fin k2_t1_loop.trips) : Fin 2 → Nat :=
  let c12_i32_32 : BitVec 32 := 12#32
  let v97 : Index := Scalar.indexCast c12_i32_32
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v98 : Index := Scalar.indexCast v32
  ![12, v98.toNat]

def k2_chk14 (v34 : IVec S16 32) (v100 : IVec S16 32) : Prop :=
  (∀ a x, ((![v100, v34] : Fin 2 → IVec S16 32) a x).toNat < S16x1024.size a)
theorem k2_idx14_inb : ∀ (v34 : IVec S16 32) (v100 : IVec S16 32) (k2_hw14 : k2_chk14 v34 v100), ∀ a x, ((![v100, v34] : Fin 2 → IVec S16 32) a x).toNat < S16x1024.size a := fun v34 v100 k2_hw14 => k2_hw14
def k2_off17 (k2_t1 : Fin k2_t1_loop.trips) : Fin 2 → Nat :=
  let c13_i32_33 : BitVec 32 := 13#32
  let v102 : Index := Scalar.indexCast c13_i32_33
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v103 : Index := Scalar.indexCast v32
  ![13, v103.toNat]

def k2_chk15 (v34 : IVec S16 32) (v105 : IVec S16 32) : Prop :=
  (∀ a x, ((![v105, v34] : Fin 2 → IVec S16 32) a x).toNat < S16x1024.size a)
theorem k2_idx15_inb : ∀ (v34 : IVec S16 32) (v105 : IVec S16 32) (k2_hw15 : k2_chk15 v34 v105), ∀ a x, ((![v105, v34] : Fin 2 → IVec S16 32) a x).toNat < S16x1024.size a := fun v34 v105 k2_hw15 => k2_hw15
def k2_off18 (k2_t1 : Fin k2_t1_loop.trips) : Fin 2 → Nat :=
  let c14_i32_34 : BitVec 32 := 14#32
  let v107 : Index := Scalar.indexCast c14_i32_34
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v108 : Index := Scalar.indexCast v32
  ![14, v108.toNat]

def k2_chk16 (v34 : IVec S16 32) (v110 : IVec S16 32) : Prop :=
  (∀ a x, ((![v110, v34] : Fin 2 → IVec S16 32) a x).toNat < S16x1024.size a)
theorem k2_idx16_inb : ∀ (v34 : IVec S16 32) (v110 : IVec S16 32) (k2_hw16 : k2_chk16 v34 v110), ∀ a x, ((![v110, v34] : Fin 2 → IVec S16 32) a x).toNat < S16x1024.size a := fun v34 v110 k2_hw16 => k2_hw16
def k2_off19 (k2_t1 : Fin k2_t1_loop.trips) : Fin 2 → Nat :=
  let c15_i32_35 : BitVec 32 := 15#32
  let v112 : Index := Scalar.indexCast c15_i32_35
  let c0_i32_12 : BitVec 32 := 0#32
  let c1_i32_13 : BitVec 32 := 1#32
  let arg8 : BitVec 32 := Scf.iv c0_i32_12 c1_i32_13 k2_t1
  let c16_i32_15 : BitVec 32 := 16#32
  let v31 : BitVec 32 := Scalar.muli arg8 c16_i32_15
  let v32 : BitVec 32 := v31
  let v113 : Index := Scalar.indexCast v32
  ![15, v113.toNat]
def k2_off20 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c0_i32_15_r2 : BitVec 32 := 0#32
  ![v18.toNat, v29.toNat, 0]
abbrev grid3 : Pipeline.Grid := ⟨2, ![2, 16], ![false, false]⟩

def k3_off1 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c0_i32_15_r0 : BitVec 32 := 0#32
  ![v29.toNat, 0]
def k3_off2 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_10 : BitVec 32 := 0#32
  let c0_i32_15_r1 : BitVec 32 := 0#32
  ![v18.toNat, 0, 0]
@[reducible] def k3_t1_loop : Scf.Loop 32 :=
  let c0_i32_12 : BitVec 32 := 0#32
  let c64_i32 : BitVec 32 := 64#32
  let v30 : BitVec 32 := Scalar.addi c0_i32_12 c64_i32
  let c1_i32_13 : BitVec 32 := 1#32
  ⟨c0_i32_12, v30, c1_i32_13⟩
def k3_mult1 (k3_t1 : Fin k3_t1_loop.trips) : BitVec 32 :=
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  v31
def k3_off3 (k3_t1 : Fin k3_t1_loop.trips) : Fin 1 → Nat :=
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v33 : Index := Scalar.indexCast v32
  ![v33.toNat]

def k3_chk1 (v34 : IVec S16 32) (v35 : IVec S16 32) : Prop :=
  (∀ a x, ((![v35, v34] : Fin 2 → IVec S16 32) a x).toNat < S16x1024.size a)
theorem k3_idx1_inb : ∀ (v34 : IVec S16 32) (v35 : IVec S16 32) (k3_hw1 : k3_chk1 v34 v35), ∀ a x, ((![v35, v34] : Fin 2 → IVec S16 32) a x).toNat < S16x1024.size a := fun v34 v35 k3_hw1 => k3_hw1
def k3_off4 (k3_t1 : Fin k3_t1_loop.trips) : Fin 2 → Nat :=
  let c0_i32_17 : BitVec 32 := 0#32
  let v37 : Index := Scalar.indexCast c0_i32_17
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v38 : Index := Scalar.indexCast v32
  ![0, v38.toNat]

def k3_chk2 (v34 : IVec S16 32) (v40 : IVec S16 32) : Prop :=
  (∀ a x, ((![v40, v34] : Fin 2 → IVec S16 32) a x).toNat < S16x1024.size a)
theorem k3_idx2_inb : ∀ (v34 : IVec S16 32) (v40 : IVec S16 32) (k3_hw2 : k3_chk2 v34 v40), ∀ a x, ((![v40, v34] : Fin 2 → IVec S16 32) a x).toNat < S16x1024.size a := fun v34 v40 k3_hw2 => k3_hw2
def k3_off5 (k3_t1 : Fin k3_t1_loop.trips) : Fin 2 → Nat :=
  let c1_i32_19 : BitVec 32 := 1#32
  let v42 : Index := Scalar.indexCast c1_i32_19
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v43 : Index := Scalar.indexCast v32
  ![1, v43.toNat]

def k3_chk3 (v34 : IVec S16 32) (v45 : IVec S16 32) : Prop :=
  (∀ a x, ((![v45, v34] : Fin 2 → IVec S16 32) a x).toNat < S16x1024.size a)
theorem k3_idx3_inb : ∀ (v34 : IVec S16 32) (v45 : IVec S16 32) (k3_hw3 : k3_chk3 v34 v45), ∀ a x, ((![v45, v34] : Fin 2 → IVec S16 32) a x).toNat < S16x1024.size a := fun v34 v45 k3_hw3 => k3_hw3
def k3_off6 (k3_t1 : Fin k3_t1_loop.trips) : Fin 2 → Nat :=
  let c2_i32_21 : BitVec 32 := 2#32
  let v47 : Index := Scalar.indexCast c2_i32_21
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v48 : Index := Scalar.indexCast v32
  ![2, v48.toNat]

def k3_chk4 (v34 : IVec S16 32) (v50 : IVec S16 32) : Prop :=
  (∀ a x, ((![v50, v34] : Fin 2 → IVec S16 32) a x).toNat < S16x1024.size a)
theorem k3_idx4_inb : ∀ (v34 : IVec S16 32) (v50 : IVec S16 32) (k3_hw4 : k3_chk4 v34 v50), ∀ a x, ((![v50, v34] : Fin 2 → IVec S16 32) a x).toNat < S16x1024.size a := fun v34 v50 k3_hw4 => k3_hw4
def k3_off7 (k3_t1 : Fin k3_t1_loop.trips) : Fin 2 → Nat :=
  let c3_i32_22 : BitVec 32 := 3#32
  let v52 : Index := Scalar.indexCast c3_i32_22
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v53 : Index := Scalar.indexCast v32
  ![3, v53.toNat]

def k3_chk5 (v34 : IVec S16 32) (v55 : IVec S16 32) : Prop :=
  (∀ a x, ((![v55, v34] : Fin 2 → IVec S16 32) a x).toNat < S16x1024.size a)
theorem k3_idx5_inb : ∀ (v34 : IVec S16 32) (v55 : IVec S16 32) (k3_hw5 : k3_chk5 v34 v55), ∀ a x, ((![v55, v34] : Fin 2 → IVec S16 32) a x).toNat < S16x1024.size a := fun v34 v55 k3_hw5 => k3_hw5
def k3_off8 (k3_t1 : Fin k3_t1_loop.trips) : Fin 2 → Nat :=
  let c4_i32_24 : BitVec 32 := 4#32
  let v57 : Index := Scalar.indexCast c4_i32_24
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v58 : Index := Scalar.indexCast v32
  ![4, v58.toNat]

def k3_chk6 (v34 : IVec S16 32) (v60 : IVec S16 32) : Prop :=
  (∀ a x, ((![v60, v34] : Fin 2 → IVec S16 32) a x).toNat < S16x1024.size a)
theorem k3_idx6_inb : ∀ (v34 : IVec S16 32) (v60 : IVec S16 32) (k3_hw6 : k3_chk6 v34 v60), ∀ a x, ((![v60, v34] : Fin 2 → IVec S16 32) a x).toNat < S16x1024.size a := fun v34 v60 k3_hw6 => k3_hw6
def k3_off9 (k3_t1 : Fin k3_t1_loop.trips) : Fin 2 → Nat :=
  let c5_i32_25 : BitVec 32 := 5#32
  let v62 : Index := Scalar.indexCast c5_i32_25
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v63 : Index := Scalar.indexCast v32
  ![5, v63.toNat]

def k3_chk7 (v34 : IVec S16 32) (v65 : IVec S16 32) : Prop :=
  (∀ a x, ((![v65, v34] : Fin 2 → IVec S16 32) a x).toNat < S16x1024.size a)
theorem k3_idx7_inb : ∀ (v34 : IVec S16 32) (v65 : IVec S16 32) (k3_hw7 : k3_chk7 v34 v65), ∀ a x, ((![v65, v34] : Fin 2 → IVec S16 32) a x).toNat < S16x1024.size a := fun v34 v65 k3_hw7 => k3_hw7
def k3_off10 (k3_t1 : Fin k3_t1_loop.trips) : Fin 2 → Nat :=
  let c6_i32_26 : BitVec 32 := 6#32
  let v67 : Index := Scalar.indexCast c6_i32_26
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v68 : Index := Scalar.indexCast v32
  ![6, v68.toNat]

def k3_chk8 (v34 : IVec S16 32) (v70 : IVec S16 32) : Prop :=
  (∀ a x, ((![v70, v34] : Fin 2 → IVec S16 32) a x).toNat < S16x1024.size a)
theorem k3_idx8_inb : ∀ (v34 : IVec S16 32) (v70 : IVec S16 32) (k3_hw8 : k3_chk8 v34 v70), ∀ a x, ((![v70, v34] : Fin 2 → IVec S16 32) a x).toNat < S16x1024.size a := fun v34 v70 k3_hw8 => k3_hw8
def k3_off11 (k3_t1 : Fin k3_t1_loop.trips) : Fin 2 → Nat :=
  let c7_i32_27 : BitVec 32 := 7#32
  let v72 : Index := Scalar.indexCast c7_i32_27
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v73 : Index := Scalar.indexCast v32
  ![7, v73.toNat]

def k3_chk9 (v34 : IVec S16 32) (v75 : IVec S16 32) : Prop :=
  (∀ a x, ((![v75, v34] : Fin 2 → IVec S16 32) a x).toNat < S16x1024.size a)
theorem k3_idx9_inb : ∀ (v34 : IVec S16 32) (v75 : IVec S16 32) (k3_hw9 : k3_chk9 v34 v75), ∀ a x, ((![v75, v34] : Fin 2 → IVec S16 32) a x).toNat < S16x1024.size a := fun v34 v75 k3_hw9 => k3_hw9
def k3_off12 (k3_t1 : Fin k3_t1_loop.trips) : Fin 2 → Nat :=
  let c8_i32_28 : BitVec 32 := 8#32
  let v77 : Index := Scalar.indexCast c8_i32_28
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v78 : Index := Scalar.indexCast v32
  ![8, v78.toNat]

def k3_chk10 (v34 : IVec S16 32) (v80 : IVec S16 32) : Prop :=
  (∀ a x, ((![v80, v34] : Fin 2 → IVec S16 32) a x).toNat < S16x1024.size a)
theorem k3_idx10_inb : ∀ (v34 : IVec S16 32) (v80 : IVec S16 32) (k3_hw10 : k3_chk10 v34 v80), ∀ a x, ((![v80, v34] : Fin 2 → IVec S16 32) a x).toNat < S16x1024.size a := fun v34 v80 k3_hw10 => k3_hw10
def k3_off13 (k3_t1 : Fin k3_t1_loop.trips) : Fin 2 → Nat :=
  let c9_i32_29 : BitVec 32 := 9#32
  let v82 : Index := Scalar.indexCast c9_i32_29
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v83 : Index := Scalar.indexCast v32
  ![9, v83.toNat]

def k3_chk11 (v34 : IVec S16 32) (v85 : IVec S16 32) : Prop :=
  (∀ a x, ((![v85, v34] : Fin 2 → IVec S16 32) a x).toNat < S16x1024.size a)
theorem k3_idx11_inb : ∀ (v34 : IVec S16 32) (v85 : IVec S16 32) (k3_hw11 : k3_chk11 v34 v85), ∀ a x, ((![v85, v34] : Fin 2 → IVec S16 32) a x).toNat < S16x1024.size a := fun v34 v85 k3_hw11 => k3_hw11
def k3_off14 (k3_t1 : Fin k3_t1_loop.trips) : Fin 2 → Nat :=
  let c10_i32_30 : BitVec 32 := 10#32
  let v87 : Index := Scalar.indexCast c10_i32_30
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v88 : Index := Scalar.indexCast v32
  ![10, v88.toNat]

def k3_chk12 (v34 : IVec S16 32) (v90 : IVec S16 32) : Prop :=
  (∀ a x, ((![v90, v34] : Fin 2 → IVec S16 32) a x).toNat < S16x1024.size a)
theorem k3_idx12_inb : ∀ (v34 : IVec S16 32) (v90 : IVec S16 32) (k3_hw12 : k3_chk12 v34 v90), ∀ a x, ((![v90, v34] : Fin 2 → IVec S16 32) a x).toNat < S16x1024.size a := fun v34 v90 k3_hw12 => k3_hw12
def k3_off15 (k3_t1 : Fin k3_t1_loop.trips) : Fin 2 → Nat :=
  let c11_i32_31 : BitVec 32 := 11#32
  let v92 : Index := Scalar.indexCast c11_i32_31
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v93 : Index := Scalar.indexCast v32
  ![11, v93.toNat]

def k3_chk13 (v34 : IVec S16 32) (v95 : IVec S16 32) : Prop :=
  (∀ a x, ((![v95, v34] : Fin 2 → IVec S16 32) a x).toNat < S16x1024.size a)
theorem k3_idx13_inb : ∀ (v34 : IVec S16 32) (v95 : IVec S16 32) (k3_hw13 : k3_chk13 v34 v95), ∀ a x, ((![v95, v34] : Fin 2 → IVec S16 32) a x).toNat < S16x1024.size a := fun v34 v95 k3_hw13 => k3_hw13
def k3_off16 (k3_t1 : Fin k3_t1_loop.trips) : Fin 2 → Nat :=
  let c12_i32_32 : BitVec 32 := 12#32
  let v97 : Index := Scalar.indexCast c12_i32_32
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v98 : Index := Scalar.indexCast v32
  ![12, v98.toNat]

def k3_chk14 (v34 : IVec S16 32) (v100 : IVec S16 32) : Prop :=
  (∀ a x, ((![v100, v34] : Fin 2 → IVec S16 32) a x).toNat < S16x1024.size a)
theorem k3_idx14_inb : ∀ (v34 : IVec S16 32) (v100 : IVec S16 32) (k3_hw14 : k3_chk14 v34 v100), ∀ a x, ((![v100, v34] : Fin 2 → IVec S16 32) a x).toNat < S16x1024.size a := fun v34 v100 k3_hw14 => k3_hw14
def k3_off17 (k3_t1 : Fin k3_t1_loop.trips) : Fin 2 → Nat :=
  let c13_i32_33 : BitVec 32 := 13#32
  let v102 : Index := Scalar.indexCast c13_i32_33
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v103 : Index := Scalar.indexCast v32
  ![13, v103.toNat]

def k3_chk15 (v34 : IVec S16 32) (v105 : IVec S16 32) : Prop :=
  (∀ a x, ((![v105, v34] : Fin 2 → IVec S16 32) a x).toNat < S16x1024.size a)
theorem k3_idx15_inb : ∀ (v34 : IVec S16 32) (v105 : IVec S16 32) (k3_hw15 : k3_chk15 v34 v105), ∀ a x, ((![v105, v34] : Fin 2 → IVec S16 32) a x).toNat < S16x1024.size a := fun v34 v105 k3_hw15 => k3_hw15
def k3_off18 (k3_t1 : Fin k3_t1_loop.trips) : Fin 2 → Nat :=
  let c14_i32_34 : BitVec 32 := 14#32
  let v107 : Index := Scalar.indexCast c14_i32_34
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v108 : Index := Scalar.indexCast v32
  ![14, v108.toNat]

def k3_chk16 (v34 : IVec S16 32) (v110 : IVec S16 32) : Prop :=
  (∀ a x, ((![v110, v34] : Fin 2 → IVec S16 32) a x).toNat < S16x1024.size a)
theorem k3_idx16_inb : ∀ (v34 : IVec S16 32) (v110 : IVec S16 32) (k3_hw16 : k3_chk16 v34 v110), ∀ a x, ((![v110, v34] : Fin 2 → IVec S16 32) a x).toNat < S16x1024.size a := fun v34 v110 k3_hw16 => k3_hw16
def k3_off19 (k3_t1 : Fin k3_t1_loop.trips) : Fin 2 → Nat :=
  let c15_i32_35 : BitVec 32 := 15#32
  let v112 : Index := Scalar.indexCast c15_i32_35
  let c0_i32_12 : BitVec 32 := 0#32
  let c1_i32_13 : BitVec 32 := 1#32
  let arg8 : BitVec 32 := Scf.iv c0_i32_12 c1_i32_13 k3_t1
  let c16_i32_15 : BitVec 32 := 16#32
  let v31 : BitVec 32 := Scalar.muli arg8 c16_i32_15
  let v32 : BitVec 32 := v31
  let v113 : Index := Scalar.indexCast v32
  ![15, v113.toNat]
def k3_off20 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c0_i32_15_r2 : BitVec 32 := 0#32
  ![v18.toNat, v29.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩
abbrev S1 : Shape := ⟨1, ![1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S64x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S16384x64, .f32⟩
  | .hbm, ⟨45, _⟩ => ⟨S16384x64, .i1⟩
  | .hbm, ⟨46, _⟩ => ⟨S_, .f32⟩
  | .hbm, ⟨47, _⟩ => ⟨S16384x64, .f32⟩
  | .hbm, ⟨48, _⟩ => ⟨S16384x64, .f32⟩
  | .hbm, ⟨49, _⟩ => ⟨S16x32x32x64, .f32⟩
  | .hbm, ⟨50, _⟩ => ⟨S16x32x32x64, .f32⟩
  | .hbm, ⟨51, _⟩ => ⟨S16x32x32x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16x32x32x64, .f32⟩
  | .hbm, ⟨59, _⟩ => ⟨S16x32x32x64, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S16x32x32x64, .f32⟩
  | .hbm, ⟨66, _⟩ => ⟨S16x32x32x64, .f32⟩
  | .hbm, ⟨67, _⟩ => ⟨S16x64x32x32, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.Finite.lean ====
/-
  What the precondition says over the extended reals: both arguments hold real numbers.
-/
module

public import proofs.«01_k».proof.Pre_finite
public import proofs.«01_k».proof.Proof.Gen.Pre_finite
public import Idealize.ShloMosaic.Lib.ReduceAll
public import Idealize.ShloMosaic.Lib.Pointwise
public import Idealize.ShloMosaic.PureOps.Ideal.Laws

@[expose] public section

noncomputable section

namespace Cert.Proof.Fin

open Cert.Pre_finite Cert.Pre_finite.Gen
open Idealize.ShloMosaic

theorem inf_word : Ideal.ofBits .f32 0x7F800000#32 = ⊤ := by
  simp [Ideal.ofBits, Ideal.ieee]

theorem real_of_abs {x : EReal} (h : max x (-x) < ⊤) : ∃ r : ℝ, x = r := by
  induction x using EReal.rec with
  | bot => simp at h
  | top => simp at h
  | coe r => exact ⟨r, rfl⟩

theorem real_of_cmp {s : Shape} (x : FVec Ideal s .f32) (b : FVec Ideal s .f32) (hb : ∀ i, b i = ⊤) (i : s.Idx)
    (h : cmpf .olt (Host.absf x) b i = 1#1) : ∃ r : ℝ, x i = r := by
  refine real_of_abs ?_
  have h' : Ideal.cmp .olt (max (x i) (-(x i))) (b i) = 1#1 := h
  rw [hb i] at h'
  exact (Ideal.cmp_olt_eq_one _ _).1 h'

theorem finite {a : FVec Ideal S16x64x32x32 .f32} {e : FVec Ideal S1024x64 .f32}
    (h : Cert.Pre_finite.fn (F := Ideal) a e = fun _ => 1#1) : (∀ i, ∃ r : ℝ, a i = r) ∧ ∀ i, ∃ r : ℝ, e i = r := by
  haveI : Subsingleton S_.Idx := ⟨fun a b => funext fun i => i.elim0⟩
  have h0 := congrFun h ix0
  unfold Cert.Pre_finite.fn at h0
  have h1 := IntOp.andi_eq_one.1 h0
  exact ⟨fun i => real_of_cmp a _ (fun i => by exact inf_word) i (Host.reduce_andi_all _ _ _ _ _ h1.1 i),
    fun i => real_of_cmp e _ (fun i => by exact inf_word) i (Host.reduce_andi_all _ _ _ _ _ h1.2 i)⟩

end Cert.Proof.Fin
-- ==== Proof.Setup.lean ====
/-
  The kernel's program as the SparseCore launch theorem sees it: its configuration, the resource algebra (the launch
  handshakes' rounds, the TensorCore pipelines' rounds, the transfers' counters) and the embeddings of the first two.
-/
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.ValueIdxCore
public import Idealize.ShloMosaic.Lib.WritesUnit
public import Idealize.ShloMosaic.Lib.Pipeline.Value

@[expose] public section

noncomputable section

namespace Cert.Proof

open Cert.KernelIdeal Cert.KernelIdeal.Gen

open Idealize.ShloMosaic
open Idealize.ShloMosaic.SparseCore.Cfg (HIx)
open Idealize.SL Idealize.SL.RA Idealize.SL.BI
open Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

/-- The handshakes' rounds, the left factor. -/
abbrev EH : Emb UH (MT nD τ sig (HIx 2) (Elt F) ℕ UU ℕ) := embL

/-- The pipelines' rounds, the left of the right factor. -/
def EP : Emb UP (MT nD τ sig (HIx 2) (Elt F) ℕ UU ℕ) :=
  (Emb.inl : Emb UP (UP × Counters)).trans embR

instance EP_landsIn : (EP : Emb UP (MT nD τ sig (HIx 2) (Elt F) ℕ UU ℕ)).LandsIn
    (upEmb : UEmb _ (MT nD τ sig (HIx 2) (Elt F) ℕ UU ℕ)) := by unfold EP; infer_instance

end Cert.Proof

end
-- ==== Proof.ScBody.lean ====
/-
  The SparseCore tile's body: two fetches (sixteen rows of the transposed table, one image's indices), sixty-four trips
  gathering sixteen lanes of each of the sixteen rows, one write-out. Proved once for a symbolic tile and any arrays: what
  lands in the tile's rectangle of the result is the fetched rows gathered at the fetched indices.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- Where position `y` of the gathered rows comes from: the same row, the column its index names. -/
def gIx (I : S1024.Idx → BitVec 32) (hI : ∀ p, (I p).toNat < 1024) (y : S16x1024.Idx) : S16x1024.Idx :=
  fun a => match a with
    | ⟨0, _⟩ => y 0
    | ⟨1, _⟩ => ⟨(I (ValueIdx.ix1 (y 1))).toNat, hI _⟩

/-- The gathered rows are final on the columns below `16 * k`, and on the next sixteen columns in the rows below `r`. -/
def Done (E : Vec F S16x1024 .f32) (I : S1024.Idx → BitVec 32) (hI : ∀ p, (I p).toNat < 1024) (k r : ℕ) (f : Vec F S16x1024 .f32) : Prop :=
  ∀ y : S16x1024.Idx, ((y 1).val < 16 * k ∨ ((y 1).val < 16 * k + 16 ∧ (y 0).val < r)) → f y = E (gIx I hI y)

theorem Done.next {E : Vec F S16x1024 .f32} {I : S1024.Idx → BitVec 32} {hI : ∀ p, (I p).toNat < 1024} {k : ℕ} {f : Vec F S16x1024 .f32}
    (h : Done E I hI k 16 f) : Done E I hI (k + 1) 0 f := fun y hy => h y (by
  have := (y 0).isLt
  have h16 : S16x1024.size 0 = 16 := rfl
  omega)

section Tile

variable (d : Dev nD) (L : grid2.Coords)
variable (arg2 : Memref sig .scVector .hbm S64x1024 .f32) (harg2 : arg2.IsWhole) (arg3 : Memref sig .scVector .hbm S8x1x1024 .i32) (harg3 : arg3.IsWhole)
  (arg4 : Memref sig .scVector .hbm S8x64x1024 .f32) (harg4 : arg4.IsWhole) (arg5 : Memref sig .scVector .vmem S1024 .i32) (harg5 : arg5.IsWhole)
  (arg6 : Memref sig .scVector .vmem S16x1024 .f32) (harg6 : arg6.IsWhole) (arg7 : Memref sig .scVector .vmem S16x1024 .f32) (harg7 : arg7.IsWhole)
  (r0 r1 r2 : DmaSems sig S_)

/-- The tile's thread. -/
abbrev thr : Thread nD τ := V d ((L 0).castLE hcore2) ((L 1).castLE hsub2)

/-- The tile's sixteen rows of the table, its image's indices, its rectangle of the result, as the body slices them. -/
abbrev eSl : Memref sig .scVector .hbm S16x1024 .f32 := arg2.slice (Rect.unit (s := S64x1024) (k2_off1 L) S16x1024.size (k2_off1_inb L)) (fun _ => rfl)
abbrev iSl : Memref sig .scVector .hbm S1024 .i32 :=
  (arg3.slice (Rect.unit (s := S8x1x1024) (k2_off2 L) S1x1x1024.size (k2_off2_inb L)) (fun _ => rfl)).squeeze S1024 squeezes_S1x1x1024_S1024
abbrev oSl : Memref sig .scVector .hbm S16x1024 .f32 :=
  (arg4.slice (Rect.unit (s := S8x64x1024) (k2_off20 L) S1x16x1024.size (k2_off20_inb L)) (fun _ => rfl)).squeeze S16x1024 squeezes_S1x16x1024_S16x1024

/-- The sixteen lanes gathered for row `r` at trip `k`. -/
def Lanes (E : Vec F S16x1024 .f32) (I : S1024.Idx → BitVec 32) (hI : ∀ p, (I p).toNat < 1024) (k r : ℕ) (v : Vec F S16 .f32) : Prop :=
  ∀ (x : S16.Idx) (y : S16x1024.Idx), (y 0).val = r → (y 1).val = 16 * k + (x 0).val → v x = E (gIx I hI y)

/-- The sixteen indices read at trip `k`. -/
def Idx16 (I : S1024.Idx → BitVec 32) (k : ℕ) (v34 : IVec S16 32) : Prop :=
  ∀ (x : S16.Idx) (p : Fin 1024), p.val = 16 * k + (x 0).val → v34 x = I (ValueIdx.ix1 p)

theorem lanes_gather {E : Vec F S16x1024 .f32} {I : S1024.Idx → BitVec 32} {hI : ∀ p, (I p).toNat < 1024} {k r : ℕ}
    {v34 vc : IVec S16 32} (hv : Idx16 I k v34) (hvc : ∀ x, (vc x).toNat = r)
    (hc : ∀ a x, ((![vc, v34] : Fin 2 → IVec S16 32) a x).toNat < S16x1024.size a) : Lanes E I hI k r (loadIdx E ![vc, v34] hc) := by
  intro x y h0 h1
  unfold loadIdx
  refine congrArg E (funext fun a => Fin.ext ?_)
  match a with
  | ⟨0, _⟩ => exact (hvc _).trans h0.symm
  | ⟨1, _⟩ =>
    show (v34 x).toNat = (I (ValueIdx.ix1 (y 1))).toNat
    rw [hv x (y 1) h1]

theorem idx16_chk {I : S1024.Idx → BitVec 32} (hI : ∀ p, (I p).toNat < 1024) {k : ℕ} (hk : k < 64) {v34 : IVec S16 32} (hv : Idx16 I k v34) {n : ℕ} (hn : n < 16) :
    ∀ (a : Fin 2) (x : S16.Idx), ((![broadcast S16 (BitVec.ofNat 32 n), v34] : Fin 2 → IVec S16 32) a x).toNat < S16x1024.size a := by
  intro a x
  match a with
  | ⟨0, _⟩ => show (BitVec.ofNat 32 n).toNat < 16; rw [BitVec.toNat_ofNat, Nat.mod_eq_of_lt (by omega)]; exact hn
  | ⟨1, _⟩ =>
    show (v34 x).toNat < 1024
    rw [hv x ⟨16 * k + (x 0).val, by have : (x 0).val < 16 := (x 0).isLt; omega⟩ rfl]; exact hI _

theorem bc_toNat {n : ℕ} (hn : n < 16) (x : S16.Idx) : (broadcast S16 (BitVec.ofNat 32 n) x).toNat = n := by
  show (BitVec.ofNat 32 n).toNat = n; rw [BitVec.toNat_ofNat, Nat.mod_eq_of_lt (by omega)]

/-- One row's sixteen lanes stored: the row joins the finished ones of this trip. -/
theorem row_done {E : Vec F S16x1024 .f32} {I : S1024.Idx → BitVec 32} {hI : ∀ p, (I p).toNat < 1024} {k r : ℕ}
    {f : arg7.view.ty.Contents (Elt F)} (hf : Done E I hI k r (arg7.view.read (Elt F) f))
    {off : Fin 2 → ℕ} (hoff : off = ![r, 16 * k]) (inb : ∀ a, off a + S1x16.size a ≤ S16x1024.size a)
    {v : Vec F S16 .f32} (hv : Lanes E I hI k r v) :
    Done E I hI k (r + 1) (arg7.view.read (Elt F) (arg7.view.writes (Elt F) f [⟨Rect.unit (s := S16x1024) off S1x16.size inb,
      shapeCast S1x16 v shapeCasts_S16_S1x16⟩])) := by
  subst hoff
  intro y hy
  by_cases hin : (y 0).val = r ∧ 16 * k ≤ (y 1).val ∧ (y 1).val < 16 * k + 16
  · obtain ⟨h0, h1, h2⟩ := hin
    have hx : (y 1).val - 16 * k < 16 := by omega
    rw [View.read_writes_cons_unit_of_mem arg7.view f inb _ [] y (ValueIdx.ix2 (0 : Fin 1) ⟨(y 1).val - 16 * k, hx⟩) rfl (by
      intro a
      match a with
      | ⟨0, _⟩ => exact h0
      | ⟨1, _⟩ => show (y 1).val = 16 * k + ((y 1).val - 16 * k); omega)]
    rw [shapeCast_apply _ _ _ (ValueIdx.ix1 ⟨(y 1).val - 16 * k, hx⟩) (by
      rw [Shape.rowMajor_val_one, Shape.rowMajor_val_two]
      show (y 1).val - 16 * k = 0 * 16 + ((y 1).val - 16 * k); omega)]
    exact hv _ y h0 (show (y 1).val = 16 * k + ((y 1).val - 16 * k) by omega)
  · have : (y 0).val < r ∨ r + 1 ≤ (y 0).val ∨ (y 1).val < 16 * k ∨ 16 * k + 16 ≤ (y 1).val := by omega
    have hne : arg7.view.read (Elt F) (arg7.view.writes (Elt F) f [⟨Rect.unit (s := S16x1024) ![r, 16 * k] S1x16.size inb,
        shapeCast S1x16 v shapeCasts_S16_S1x16⟩]) y = arg7.view.read (Elt F) f y := by
      by_cases h0 : (y 0).val < r ∨ r + 1 ≤ (y 0).val
      · exact View.read_writes_cons_unit_of_not_mem arg7.view f inb _ [] y rfl 0 h0
      · exact View.read_writes_cons_unit_of_not_mem arg7.view f inb _ [] y rfl 1 (show (y 1).val < 16 * k ∨ 16 * k + 16 ≤ (y 1).val by omega)
    rw [hne]
    exact hf y (by omega)

/-- One row's check and gather. -/
theorem wp_gather {β : Type} {E : Vec F S16x1024 .f32} {I : S1024.Idx → BitVec 32} {hI : ∀ p, (I p).toNat < 1024} {k : ℕ} (hk : k < 64) (r : ℕ) (hr : r < 16)
    {f6 : Buf (Elt F) (arg6.view.loc (thr d L))} (h6 : arg6.view.readAt (Elt F) (.whole S16x1024) f6 = E)
    {v34 : IVec S16 32} (hv : Idx16 I k v34)
    {P : Prop} {dec : Decidable P} (hP : P) {hc : P → ∀ a x, ((![broadcast S16 (BitVec.ofNat 32 r), v34] : Fin 2 → IVec S16 32) a x).toNat < S16x1024.size a}
    {hl6 : arg6.view.LoadsAt (.whole S16x1024)}
    {k' : Vec F S16 .f32 → Prog (TpuEff nD τ sig (Elt F) Λ₀ (thr d L).2) β} {Q : β → sProp 𝕄} :
    iprop((arg6.view.loc (thr d L) ↦{fullShare} f6)
      ∗ (∀ v : Vec F S16 .f32, ⌜Lanes E I hI k r v⌝ -∗ (arg6.view.loc (thr d L) ↦{fullShare} f6)
          -∗ wp frame (wpE (defs₀ (F := F)) 𝒱₀ (thr d L) none) Set.univ (k' v) Q))
      ⊢ wp frame (wpE (defs₀ (F := F)) 𝒱₀ (thr d L) none) Set.univ
          (.op (.assume P dec) fun h => .op (.load arg6 (.whole S16x1024) hl6) fun v => k' (loadIdx v ![broadcast S16 (BitVec.ofNat 32 r), v34] (hc h.down))) Q := by
  iintro ⟨H6, Hk⟩
  rw [wp_assume_of _ _ _ _ hP]
  iapply (wp_load 𝒱₀ (thr d L) none Set.univ (m := arg6) (S := Finset.univ) (Finset.subset_univ _)) $$ H6; iintro H6
  ispecialize Hk $$ %(loadIdx (arg6.view.readAt (Elt F) (.whole S16x1024) f6) ![broadcast S16 (BitVec.ofNat 32 r), v34] (hc hP)) [] H6
  · ipureintro
    rw [h6]
    exact lanes_gather hv (bc_toNat hr) (hc hP)
  iexact Hk

/-- One row's (unused) load and its store. -/
theorem wp_put {β : Type} {E : Vec F S16x1024 .f32} {I : S1024.Idx → BitVec 32} {hI : ∀ p, (I p).toNat < 1024} {k r : ℕ}
    {f : Buf (Elt F) (arg7.view.loc (thr d L))} (hf : Done E I hI k r (arg7.view.read (Elt F) f))
    {off : Fin 2 → ℕ} (hoff : off = ![r, 16 * k]) {inb : ∀ a, off a + S1x16.size a ≤ S16x1024.size a}
    {v : Vec F S16 .f32} (hv : Lanes E I hI k r v)
    {hl7 : arg7.view.LoadsAt (Rect.unit (s := S16x1024) off S1x16.size inb).toLoadRect}
    {hs7 : (arg7.access (Rect.unit (s := S16x1024) off S1x16.size inb)).Stores Finset.univ}
    {hm7 : Finset.univ = Finset.univ ∨ ∀ a, (Rect.unit (s := S16x1024) off S1x16.size inb).stride a = 1}
    {k' : PUnit → Prog (TpuEff nD τ sig (Elt F) Λ₀ (thr d L).2) β} {Q : β → sProp 𝕄} :
    iprop((arg7.view.loc (thr d L) ↦{fullShare} f)
      ∗ (∀ f' : Buf (Elt F) (arg7.view.loc (thr d L)), ⌜Done E I hI k (r + 1) (arg7.view.read (Elt F) f')⌝
          -∗ (arg7.view.loc (thr d L) ↦{fullShare} f') -∗ wp frame (wpE (defs₀ (F := F)) 𝒱₀ (thr d L) none) Set.univ (k' ⟨⟩) Q))
      ⊢ wp frame (wpE (defs₀ (F := F)) 𝒱₀ (thr d L) none) Set.univ
          (.op (.load arg7 (Rect.unit (s := S16x1024) off S1x16.size inb).toLoadRect hl7) fun _ =>
            .op (.store arg7 (Rect.unit (s := S16x1024) off S1x16.size inb) (shapeCast S1x16 v shapeCasts_S16_S1x16) Finset.univ hs7 hm7) k') Q := by
  iintro ⟨H7, Hk⟩
  iapply (wp_load 𝒱₀ (thr d L) none Set.univ (m := arg7) (S := Finset.univ) (Finset.subset_univ _)) $$ H7; iintro H7
  iapply (wp_store 𝒱₀ (thr d L) none Set.univ (m := arg7) (r := Rect.unit (s := S16x1024) off S1x16.size inb) (Mk := Finset.univ) (S := Finset.univ) (Finset.subset_univ _)) $$ H7; iintro H7
  ispecialize Hk $$ %_ [] H7
  · ipureintro
    exact row_done arg7 hf hoff inb hv
  iexact Hk

/-- One row's check, gather, (unused) load and store. -/
theorem wp_row {β : Type} {E : Vec F S16x1024 .f32} {I : S1024.Idx → BitVec 32} {hI : ∀ p, (I p).toNat < 1024} {k : ℕ} (hk : k < 64) (r : ℕ) (hr : r < 16)
    {f6 : Buf (Elt F) (arg6.view.loc (thr d L))} (h6 : arg6.view.readAt (Elt F) (.whole S16x1024) f6 = E)
    {f : Buf (Elt F) (arg7.view.loc (thr d L))} (hf : Done E I hI k r (arg7.view.read (Elt F) f))
    {v34 : IVec S16 32} (hv : Idx16 I k v34)
    {off : Fin 2 → ℕ} (hoff : off = ![r, 16 * k]) {inb : ∀ a, off a + S1x16.size a ≤ S16x1024.size a}
    {P : Prop} {dec : Decidable P} (hP : P) {hc : P → ∀ a x, ((![broadcast S16 (BitVec.ofNat 32 r), v34] : Fin 2 → IVec S16 32) a x).toNat < S16x1024.size a}
    {hl6 : arg6.view.LoadsAt (.whole S16x1024)} {hl7 : arg7.view.LoadsAt (Rect.unit (s := S16x1024) off S1x16.size inb).toLoadRect}
    {hs7 : (arg7.access (Rect.unit (s := S16x1024) off S1x16.size inb)).Stores Finset.univ}
    {hm7 : Finset.univ = Finset.univ ∨ ∀ a, (Rect.unit (s := S16x1024) off S1x16.size inb).stride a = 1}
    {k' : PUnit → Prog (TpuEff nD τ sig (Elt F) Λ₀ (thr d L).2) β} {Q : β → sProp 𝕄} :
    iprop((arg6.view.loc (thr d L) ↦{fullShare} f6) ∗ (arg7.view.loc (thr d L) ↦{fullShare} f)
      ∗ (∀ f' : Buf (Elt F) (arg7.view.loc (thr d L)), ⌜Done E I hI k (r + 1) (arg7.view.read (Elt F) f')⌝ -∗ (arg6.view.loc (thr d L) ↦{fullShare} f6)
          -∗ (arg7.view.loc (thr d L) ↦{fullShare} f') -∗ wp frame (wpE (defs₀ (F := F)) 𝒱₀ (thr d L) none) Set.univ (k' ⟨⟩) Q))
      ⊢ wp frame (wpE (defs₀ (F := F)) 𝒱₀ (thr d L) none) Set.univ
          (.op (.assume P dec) fun h => .op (.load arg6 (.whole S16x1024) hl6) fun v =>
            .op (.load arg7 (Rect.unit (s := S16x1024) off S1x16.size inb).toLoadRect hl7) fun _ =>
            .op (.store arg7 (Rect.unit (s := S16x1024) off S1x16.size inb)
              (shapeCast S1x16 (loadIdx v ![broadcast S16 (BitVec.ofNat 32 r), v34] (hc h.down)) shapeCasts_S16_S1x16) Finset.univ hs7 hm7) k') Q := by
  iintro ⟨H6, H7, Hk⟩
  iapply (wp_gather d L arg6 (hI := hI) hk r hr h6 hv hP (hc := hc) (k' := fun v => .op (.load arg7 (Rect.unit (s := S16x1024) off S1x16.size inb).toLoadRect hl7) fun _ =>
            .op (.store arg7 (Rect.unit (s := S16x1024) off S1x16.size inb) (shapeCast S1x16 v shapeCasts_S16_S1x16) Finset.univ hs7 hm7) k'))
  isplitl [H6]; · iexact H6
  iintro %v %hl H6
  iapply (wp_put d L arg7 hf hoff hl)
  isplitl [H7]; · iexact H7
  iintro %f' %hf' H7
  ispecialize Hk $$ %_ %hf' H6 H7
  iexact Hk

variable {E : Vec F S16x1024 .f32} {I : S1024.Idx → BitVec 32} {hI : ∀ p, (I p).toNat < 1024} (t : Fin k2_t1_loop.trips)
  {f5 : Buf (Elt F) (arg5.view.loc (thr d L))} (h5 : arg5.view.read (Elt F) f5 = I)
  {f6 : Buf (Elt F) (arg6.view.loc (thr d L))} (h6 : arg6.view.readAt (Elt F) (.whole S16x1024) f6 = E)

/-- The three scratch buffers inside a trip: the indices and the table rows as fetched, the gathered rows done up to `r`. -/
def inTrip (E : Vec F S16x1024 .f32) (I : S1024.Idx → BitVec 32) (hI : ∀ p, (I p).toNat < 1024) (k r : ℕ)
    (f5 : Buf (Elt F) (arg5.view.loc (thr d L))) (f6 : Buf (Elt F) (arg6.view.loc (thr d L))) : sProp 𝕄 :=
  iprop((arg5.view.loc (thr d L) ↦{fullShare} f5) ∗ (arg6.view.loc (thr d L) ↦{fullShare} f6)
    ∗ ∃ f : Buf (Elt F) (arg7.view.loc (thr d L)), ⌜Done E I hI k r (arg7.view.read (Elt F) f)⌝ ∗ (arg7.view.loc (thr d L) ↦{fullShare} f))

set_option maxHeartbeats 1000000 in
include h5 h6 in
theorem part1 (b b' : BitVec 32) :
    inTrip d L arg5 arg6 arg7 E I hI t.val 0 f5 f6
      ⊢ wp frame (wpE (defs₀ (F := F)) 𝒱₀ (thr d L) none) Set.univ (k2_part1 L arg2 harg2 arg3 harg3 arg4 harg4 arg5 harg5 arg6 harg6 arg7 harg7 r0 r1 r2 b b' t)
          fun r => iprop(⌜Idx16 I t.val r.2.1 ∧ Lanes E I hI t.val 5 r.2.2⌝ ∗ inTrip d L arg5 arg6 arg7 E I hI t.val 5 f5 f6) := by
  have ht : t.val < 64 := t.isLt
  simp only [k2_part1_eq_skeleton, k2_part1_skel, Prog.lift, Prog.bind_op, Prog.bind_ret, Prog.pure_eq_ret, SparseCore.vectorLoadIdx_bind (thr d L)]
  unfold inTrip
  iintro ⟨H5, H6, %f, %hf, H7⟩
  iapply (wp_load 𝒱₀ (thr d L) none Set.univ (m := arg5) (S := Finset.univ) (Finset.subset_univ _)) $$ H5; iintro H5
  have hv : Idx16 I t.val (arg5.view.readAt (Elt F) (Rect.unit (s := S1024) (k2_off3 t) S16.size (k2_off3_inb t)).toLoadRect f5) := by
    intro x p hp
    rw [View.readAt_apply, h5]
    refine congrArg I (funext fun a => ?_)
    match a with
    | ⟨0, _⟩ => exact Fin.ext (by rw [hp]; show k2_off3 t 0 + 1 * (x 0).val = _; rw [k2_off3_eq]; simp)
  generalize arg5.view.readAt (Elt F) (Rect.unit (s := S1024) (k2_off3 t) S16.size (k2_off3_inb t)).toLoadRect f5 = v34 at hv ⊢
  iapply (wp_row d L arg6 arg7 ht 0 (by decide) h6 hf hv (k2_off4_eq t) (idx16_chk hI ht hv (n := 0) (by decide)))
  isplitl [H6]; · iexact H6
  isplitl [H7]; · iexact H7
  iintro %f %hf H6 H7
  iapply (wp_row d L arg6 arg7 ht 1 (by decide) h6 hf hv (k2_off5_eq t) (idx16_chk hI ht hv (n := 1) (by decide)))
  isplitl [H6]; · iexact H6
  isplitl [H7]; · iexact H7
  iintro %f %hf H6 H7
  iapply (wp_row d L arg6 arg7 ht 2 (by decide) h6 hf hv (k2_off6_eq t) (idx16_chk hI ht hv (n := 2) (by decide)))
  isplitl [H6]; · iexact H6
  isplitl [H7]; · iexact H7
  iintro %f %hf H6 H7
  iapply (wp_row d L arg6 arg7 ht 3 (by decide) h6 hf hv (k2_off7_eq t) (idx16_chk hI ht hv (n := 3) (by decide)))
  isplitl [H6]; · iexact H6
  isplitl [H7]; · iexact H7
  iintro %f %hf H6 H7
  iapply (wp_row d L arg6 arg7 ht 4 (by decide) h6 hf hv (k2_off8_eq t) (idx16_chk hI ht hv (n := 4) (by decide)))
  isplitl [H6]; · iexact H6
  isplitl [H7]; · iexact H7
  iintro %f %hf H6 H7
  rw [wp_assume_of _ _ _ _ (show k2_chk6 v34 (broadcast S16 5#32) from idx16_chk hI ht hv (n := 5) (by decide))]
  iapply (wp_load 𝒱₀ (thr d L) none Set.univ (m := arg6) (S := Finset.univ) (Finset.subset_univ _)) $$ H6; iintro H6
  have hl : Lanes E I hI t.val 5 (loadIdx (arg6.view.readAt (Elt F) (.whole S16x1024) f6) ![broadcast S16 5#32, v34] (idx16_chk hI ht hv (n := 5) (by decide))) := by
    rw [h6]; exact lanes_gather hv (bc_toNat (n := 5) (by decide)) _
  rw [wp_ret]
  imodintro
  isplitr; · ipureintro; exact ⟨hv, hl⟩
  isplitl [H5]; · iexact H5
  isplitl [H6]; · iexact H6
  iexists f; isplitr
  · ipureintro; exact hf
  · iexact H7

set_option maxHeartbeats 1000000 in
include h6 in
theorem part2 (b : BitVec 32) {v34 : IVec S16 32} (hv : Idx16 I t.val v34) {v : Vec F S16 .f32} (hl : Lanes E I hI t.val 5 v) :
    inTrip d L arg5 arg6 arg7 E I hI t.val 5 f5 f6
      ⊢ wp frame (wpE (defs₀ (F := F)) 𝒱₀ (thr d L) none) Set.univ (k2_part2 L arg2 harg2 arg3 harg3 arg4 harg4 arg5 harg5 arg6 harg6 arg7 harg7 r0 r1 r2 t b v34 v)
          fun r => iprop(⌜Lanes E I hI t.val 11 r⌝ ∗ inTrip d L arg5 arg6 arg7 E I hI t.val 11 f5 f6) := by
  have ht : t.val < 64 := t.isLt
  simp only [k2_part2_eq_skeleton, k2_part2_skel, Prog.lift, Prog.bind_op, Prog.bind_ret, Prog.pure_eq_ret, SparseCore.vectorLoadIdx_bind (thr d L)]
  unfold inTrip
  iintro ⟨H5, H6, %f, %hf, H7⟩
  iapply (wp_put d L arg7 hf (k2_off9_eq t) hl)
  isplitl [H7]; · iexact H7
  iintro %f %hf H7
  iapply (wp_row d L arg6 arg7 ht 6 (by decide) h6 hf hv (k2_off10_eq t) (idx16_chk hI ht hv (n := 6) (by decide)))
  isplitl [H6]; · iexact H6
  isplitl [H7]; · iexact H7
  iintro %f %hf H6 H7
  iapply (wp_row d L arg6 arg7 ht 7 (by decide) h6 hf hv (k2_off11_eq t) (idx16_chk hI ht hv (n := 7) (by decide)))
  isplitl [H6]; · iexact H6
  isplitl [H7]; · iexact H7
  iintro %f %hf H6 H7
  iapply (wp_row d L arg6 arg7 ht 8 (by decide) h6 hf hv (k2_off12_eq t) (idx16_chk hI ht hv (n := 8) (by decide)))
  isplitl [H6]; · iexact H6
  isplitl [H7]; · iexact H7
  iintro %f %hf H6 H7
  iapply (wp_row d L arg6 arg7 ht 9 (by decide) h6 hf hv (k2_off13_eq t) (idx16_chk hI ht hv (n := 9) (by decide)))
  isplitl [H6]; · iexact H6
  isplitl [H7]; · iexact H7
  iintro %f %hf H6 H7
  iapply (wp_row d L arg6 arg7 ht 10 (by decide) h6 hf hv (k2_off14_eq t) (idx16_chk hI ht hv (n := 10) (by decide)))
  isplitl [H6]; · iexact H6
  isplitl [H7]; · iexact H7
  iintro %f %hf H6 H7
  rw [wp_assume_of _ _ _ _ (show k2_chk12 v34 (broadcast S16 11#32) from idx16_chk hI ht hv (n := 11) (by decide))]
  iapply (wp_load 𝒱₀ (thr d L) none Set.univ (m := arg6) (S := Finset.univ) (Finset.subset_univ _)) $$ H6; iintro H6
  have hl : Lanes E I hI t.val 11 (loadIdx (arg6.view.readAt (Elt F) (.whole S16x1024) f6) ![broadcast S16 11#32, v34] (idx16_chk hI ht hv (n := 11) (by decide))) := by
    rw [h6]; exact lanes_gather hv (bc_toNat (n := 11) (by decide)) _
  rw [wp_ret]
  imodintro
  isplitr; · ipureintro; exact hl
  isplitl [H5]; · iexact H5
  isplitl [H6]; · iexact H6
  iexists f; isplitr
  · ipureintro; exact hf
  · iexact H7

set_option maxHeartbeats 1000000 in
include h5 h6 in
/-- One trip: sixteen lanes of each of the sixteen rows. -/
theorem trip :
    inTrip d L arg5 arg6 arg7 E I hI t.val 0 f5 f6
      ⊢ wp frame (wpE (defs₀ (F := F)) 𝒱₀ (thr d L) none) Set.univ (k2_t1_body L arg2 harg2 arg3 harg3 arg4 harg4 arg5 harg5 arg6 harg6 arg7 harg7 r0 r1 r2 t ())
          fun _ => inTrip d L arg5 arg6 arg7 E I hI (t.val + 1) 0 f5 f6 := by
  have ht : t.val < 64 := t.isLt
  unfold k2_t1_body
  refine BI.Entails.trans (part1 d L arg2 harg2 arg3 harg3 arg4 harg4 arg5 harg5 arg6 harg6 arg7 harg7 r0 r1 r2 t h5 h6 0#32 1#32) ?_
  rw [wp_bind]
  refine wp_mono _ _ _ fun r => ?_
  obtain ⟨b, v34, v⟩ := r
  dsimp only
  iintro ⟨%h, H⟩
  obtain ⟨hv, hl⟩ := h
  rw [wp_bind]
  ihave Hw := (part2 d L arg2 harg2 arg3 harg3 arg4 harg4 arg5 harg5 arg6 harg6 arg7 harg7 r0 r1 r2 t h6 b hv hl) $$ H
  iapply (wp_wand_r Idealize.ShloMosaic.frame (wpE (defs₀ (F := F)) 𝒱₀ (thr d L) none) Set.univ)
  isplitl [Hw]; · iexact Hw
  clear hl
  iintro %v ⟨%hl, H⟩
  simp only [Prog.lift, Prog.bind_op, Prog.bind_ret, Prog.pure_eq_ret, SparseCore.vectorLoadIdx_bind (thr d L)]
  unfold inTrip
  icases H with ⟨H5, H6, %f, %hf, H7⟩
  iapply (wp_put d L arg7 hf (k2_off15_eq t) hl)
  isplitl [H7]; · iexact H7
  iintro %f %hf H7
  iapply (wp_row d L arg6 arg7 ht 12 (by decide) h6 hf hv (k2_off16_eq t) (idx16_chk hI ht hv (n := 12) (by decide)))
  isplitl [H6]; · iexact H6
  isplitl [H7]; · iexact H7
  iintro %f %hf H6 H7
  iapply (wp_row d L arg6 arg7 ht 13 (by decide) h6 hf hv (k2_off17_eq t) (idx16_chk hI ht hv (n := 13) (by decide)))
  isplitl [H6]; · iexact H6
  isplitl [H7]; · iexact H7
  iintro %f %hf H6 H7
  iapply (wp_row d L arg6 arg7 ht 14 (by decide) h6 hf hv (k2_off18_eq t) (idx16_chk hI ht hv (n := 14) (by decide)))
  isplitl [H6]; · iexact H6
  isplitl [H7]; · iexact H7
  iintro %f %hf H6 H7
  iapply (wp_row d L arg6 arg7 ht 15 (by decide) h6 hf hv (k2_off19_eq t) (idx16_chk hI ht hv (n := 15) (by decide)))
  isplitl [H6]; · iexact H6
  isplitl [H7]; · iexact H7
  iintro %f %hf H6 H7
  rw [wp_ret]
  imodintro
  isplitl [H5]; · iexact H5
  isplitl [H6]; · iexact H6
  iexists f; isplitr
  · ipureintro; exact hf.next
  · iexact H7

/-- The whole body on one tile, from its shares of the table and the indices, its rectangle of the result, its scratch and
    its semaphores. -/
theorem tile_run (q2 q3 : PosShare TreeShare) (O : CellTallies nD τ sig (HIx 2)) (W : Waits sig (HIx 2))
    (E2 : Buf (Elt F) (arg2.view.loc (thr d L))) (I3 : Buf (Elt F) (arg3.view.loc (thr d L))) (o : Buf (Elt F) (arg4.view.loc (thr d L)))
    (hI : ∀ p, ((iSl L arg3).view.read (Elt F) I3 p : BitVec 32).toNat < 1024)
    (g5 : Buf (Elt F) (arg5.view.loc (thr d L))) (g6 : Buf (Elt F) (arg6.view.loc (thr d L))) (g7 : Buf (Elt F) (arg7.view.loc (thr d L))) :
    (iprop(Transfers.MayWaits (thr d L) (default : HIx 2) O
        ∗ (arg2.view.loc (thr d L) ↦{q2} E2) ∗ (arg3.view.loc (thr d L) ↦{q3} I3)
        ∗ ((oSl L arg4).view.loc (thr d L) ↦[(oSl L arg4).view.set]{fullShare} o)
        ∗ (arg5.view.loc (thr d L) ↦{fullShare} g5) ∗ (arg6.view.loc (thr d L) ↦{fullShare} g6) ∗ (arg7.view.loc (thr d L) ↦{fullShare} g7)
        ∗ semVal (thr d L, SemLoc.dma r0.sem) 0 ∗ semVal (thr d L, SemLoc.dma r1.sem) 0 ∗ semVal (thr d L, SemLoc.dma r2.sem) 0
        ∗ owes (thr d L) O W) : sProp 𝕄)
      ⊢ wp frame (wpE (defs₀ (F := F)) 𝒱₀ (thr d L) none) Set.univ (cc2__sc_gather L arg2 harg2 arg3 harg3 arg4 harg4 arg5 harg5 arg6 harg6 arg7 harg7 r0 r1 r2)
          fun _ => iprop((arg2.view.loc (thr d L) ↦{q2} E2) ∗ (arg3.view.loc (thr d L) ↦{q3} I3)
            ∗ (∃ o' : Buf (Elt F) (arg4.view.loc (thr d L)),
                ⌜∀ y, (oSl L arg4).view.read (Elt F) o' y = (eSl L arg2).view.read (Elt F) E2 (gIx ((iSl L arg3).view.read (Elt F) I3) hI y)⌝
                  ∗ ((oSl L arg4).view.loc (thr d L) ↦[(oSl L arg4).view.set]{fullShare} o'))
            ∗ (∃ g, arg5.view.loc (thr d L) ↦{fullShare} g) ∗ (∃ g, arg6.view.loc (thr d L) ↦{fullShare} g) ∗ (∃ g, arg7.view.loc (thr d L) ↦{fullShare} g)
            ∗ semVal (thr d L, SemLoc.dma r0.sem) 0 ∗ semVal (thr d L, SemLoc.dma r1.sem) 0 ∗ semVal (thr d L, SemLoc.dma r2.sem) 0
            ∗ ∃ W', ⌜∀ p ∈ W', p ∈ W ∨ p.2 = none⌝ ∗ owes (thr d L) O W') := by
  simp only [cc2__sc_gather_eq_skeleton, k2_part3_eq_skeleton, cc2__sc_gather_skel, k2_part3_skel]
  iintro ⟨#Hmw, H2, H3, H4, H5, H6, H7, Hs0, Hs1, Hs2, HO⟩
  sl_exec (disch := exact View.amount_pos _ _ (show 0 < S16x1024.numel by decide))
  have h5 : arg5.view.read (Elt F) (arg5.view.write (Elt F) g5 (tile_run.sl.dma0_1 d L arg3 I3) Finset.univ) = (iSl L arg3).view.read (Elt F) I3 :=
    (View.read_write_univ _ _).trans rfl
  have h6 : arg6.view.readAt (Elt F) (.whole S16x1024) (arg6.view.write (Elt F) g6 (tile_run.sl.dma0 d L arg2 E2) Finset.univ) = (eSl L arg2).view.read (Elt F) E2 := by
    refine Eq.trans ?_ ((View.read_write_univ (v := arg6.view) g6 (tile_run.sl.dma0 d L arg2 E2)).trans rfl)
    funext x
    rw [View.readAt_apply]
    exact congrArg _ (funext fun a => Fin.ext (by show 0 + 1 * (x a).val = (x a).val; omega))
  generalize arg5.view.write (Elt F) g5 (tile_run.sl.dma0_1 d L arg3 I3) Finset.univ = f5 at h5 ⊢
  generalize arg6.view.write (Elt F) g6 (tile_run.sl.dma0 d L arg2 E2) Finset.univ = f6 at h6 ⊢
  sl_for (fun k (_ : PUnit) => inTrip d L arg5 arg6 arg7 ((eSl L arg2).view.read (Elt F) E2) ((iSl L arg3).view.read (Elt F) I3) hI k 0 f5 f6) $$ [H5 H6 H7]
  case region =>
    intro k _
    exact trip d L arg2 harg2 arg3 harg3 arg4 harg4 arg5 harg5 arg6 harg6 arg7 harg7 r0 r1 r2 k h5 h6
  · unfold inTrip
    isplitl [H5]; · iexact H5
    isplitl [H6]; · iexact H6
    iexists g7; isplitr
    · ipureintro; exact fun y hy => by omega
    · iexact H7
  iintro %_ HI
  unfold inTrip
  icases HI with ⟨H5, H6, %f, %hf, H7⟩
  ihave H4' := (show _ ⊢ ((oSl L arg4).view.loc (thr d L) ↦[(oSl L arg4).view.set]{fullShare} o : sProp 𝕄) from Entails.of_eq rfl) $$ H4
  sl_exec (disch := exact View.amount_pos _ _ (show 0 < S16x1024.numel by decide))
  sl_step
  isplitl [H2]; · iexact H2
  isplitl [H3]; · iexact H3
  isplitl [H4']
  · iexists _; isplitr
    swap; · iexact H4'
    ipureintro
    intro y
    have hw := View.read_writes_cons_emb (oSl L arg4).view o (Rect.whole S16x1024) (tile_run.sl.dma0_2 d L arg7 f) [] y
    rw [Rect.emb_whole_apply] at hw
    exact hw.trans (hf y (.inl (y 1).isLt))
  isplitl [H5]; · iexists _; iexact H5
  isplitl [H6]; · iexists _; iexact H6
  isplitl [H7]; · iexists _; iexact H7
  isplitl [Hs0]; · iexact Hs0
  isplitl [Hs1]; · iexact Hs1
  isplitl [Hs2]; · iexact Hs2
  iexists _; isplitr
  swap; · iexact HO
  ipureintro; intro p hp
  simp only [Finset.mem_insert] at hp
  rcases hp with hp | hp | hp | hp
  · exact .inr (hp ▸ rfl)
  · exact .inr (hp ▸ rfl)
  · exact .inr (hp ▸ rfl)
  · exact .inl hp

end Tile

end Cert.Proof

end
-- ==== Proof.ScGeom.lean ====
/-
  Where the SparseCore tiles work: which rectangle of the result, which rows of the transposed table and which image's indices a
  tile takes; that the thirty-two rectangles are disjoint and cover the result; a read-only array cut into one read share per tile;
  and the gathered result as a function of the table and the indices.
-/
module

public import proofs.«01_k».proof.Proof.ScBody

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

/-- A tile's coordinates: its SparseCore and its subcore. -/
def coordsV (c : Fin (grid2.bound 0)) (s : Fin (grid2.bound 1)) : grid2.Coords :=
  fun | 0 => c | 1 => s | ⟨_ + 2, h⟩ => absurd h (Nat.not_lt.2 (Nat.le_add_left _ _))

/-- Tile `(c, s)`'s number. -/
abbrev wid (c : Fin 2) (s : Fin 16) : ℕ := 2 * s.val + c.val

theorem off1_0 : ∀ (c : Fin 2) (s : Fin 16), k2_off1 (coordsV c s) 0 = wid c s % 4 * 16 := by decide +kernel
theorem off1_1 : ∀ (c : Fin 2) (s : Fin 16), k2_off1 (coordsV c s) 1 = 0 := by decide +kernel
theorem off2_0 : ∀ (c : Fin 2) (s : Fin 16), k2_off2 (coordsV c s) 0 = wid c s / 4 := by decide +kernel
theorem off2_1 : ∀ (c : Fin 2) (s : Fin 16), k2_off2 (coordsV c s) 1 = 0 := by decide +kernel
theorem off2_2 : ∀ (c : Fin 2) (s : Fin 16), k2_off2 (coordsV c s) 2 = 0 := by decide +kernel
theorem off20_0 : ∀ (c : Fin 2) (s : Fin 16), k2_off20 (coordsV c s) 0 = wid c s / 4 := by decide +kernel
theorem off20_1 : ∀ (c : Fin 2) (s : Fin 16), k2_off20 (coordsV c s) 1 = wid c s % 4 * 16 := by decide +kernel
theorem off20_2 : ∀ (c : Fin 2) (s : Fin 16), k2_off20 (coordsV c s) 2 = 0 := by decide +kernel

/-! ## The tile's rectangle of the result -/

abbrev orect (c : Fin 2) (s : Fin 16) : Rect S8x64x1024 :=
  Rect.unit (s := S8x64x1024) (k2_off20 (coordsV c s)) S1x16x1024.size (k2_off20_inb (coordsV c s))
abbrev oset (p : Fin 2 × Fin 16) : Finset S8x64x1024.Idx := (orect p.1 p.2).set

theorem mem_oset (c : Fin 2) (s : Fin 16) (x : S8x64x1024.Idx) :
    x ∈ oset (c, s) ↔ (x 0).val = wid c s / 4 ∧ wid c s % 4 * 16 ≤ (x 1).val ∧ (x 1).val < wid c s % 4 * 16 + 16 := by
  have h2 : (x 2).val < 1024 := (x 2).isLt
  show x ∈ (orect c s).set ↔ _
  rw [Rect.mem_set_unit]
  constructor
  · intro h
    have h0 := h 0; have h1 := h 1
    rw [off20_0] at h0; rw [off20_1] at h1
    have e0 : S1x16x1024.size 0 = 1 := rfl
    have e1 : S1x16x1024.size 1 = 16 := rfl
    rw [e0] at h0; rw [e1] at h1
    omega
  · rintro ⟨h0, h1, h1'⟩ a
    fin_cases a
    · show k2_off20 (coordsV c s) 0 ≤ (x 0).val ∧ (x 0).val < k2_off20 (coordsV c s) 0 + 1
      rw [off20_0]; omega
    · show k2_off20 (coordsV c s) 1 ≤ (x 1).val ∧ (x 1).val < k2_off20 (coordsV c s) 1 + 16
      rw [off20_1]; omega
    · show k2_off20 (coordsV c s) 2 ≤ (x 2).val ∧ (x 2).val < k2_off20 (coordsV c s) 2 + 1024
      rw [off20_2]; omega

theorem oset_disjoint : ∀ p ∈ (Finset.univ : Finset (Fin 2 × Fin 16)), ∀ p' ∈ (Finset.univ : Finset (Fin 2 × Fin 16)), p ≠ p' →
    Disjoint (oset p) (oset p') := by
  rintro ⟨c, s⟩ _ ⟨c', s'⟩ _ hne
  rw [Finset.disjoint_left]
  intro x hx hx'
  rw [mem_oset] at hx hx'
  apply hne
  have : wid c s = wid c' s' := by omega
  simp only [wid] at this
  have hc := c.isLt; have hc' := c'.isLt
  exact Prod.ext (Fin.ext (by show c.val = c'.val; omega)) (Fin.ext (by show s.val = s'.val; omega))

theorem oset_cover : (Finset.univ : Finset (Fin 2 × Fin 16)).biUnion oset = Finset.univ := by
  refine Finset.eq_univ_of_forall fun x => Finset.mem_biUnion.mpr ?_
  have h0 : (x 0).val < 8 := (x 0).isLt
  have h1 : (x 1).val < 64 := (x 1).isLt
  refine ⟨(⟨(4 * (x 0).val + (x 1).val / 16) % 2, by omega⟩, ⟨(4 * (x 0).val + (x 1).val / 16) / 2, by omega⟩), Finset.mem_univ _, ?_⟩
  rw [mem_oset]
  show _ = (2 * ((4 * (x 0).val + (x 1).val / 16) / 2) + (4 * (x 0).val + (x 1).val / 16) % 2) / 4 ∧
    (2 * ((4 * (x 0).val + (x 1).val / 16) / 2) + (4 * (x 0).val + (x 1).val / 16) % 2) % 4 * 16 ≤ _ ∧
    _ < (2 * ((4 * (x 0).val + (x 1).val / 16) / 2) + (4 * (x 0).val + (x 1).val / 16) % 2) % 4 * 16 + 16
  omega

/-! ## The gathered result -/

/-- Position `(b, r, p)` of the result is row `r` of the transposed table at the column that image `b`'s index at `p` names. -/
def gath (E : Vec F S64x1024 .f32) (I : S8x1x1024.Idx → BitVec 32) : Vec F S8x64x1024 .f32 :=
  fun x => E (ValueIdx.ix2 (x 1) ⟨(I (ValueIdx.ix3 (x 0) 0 (x 2))).toNat % 1024, Nat.mod_lt _ (by decide)⟩)

section Reads

variable [FloatOps F] (c : Fin 2) (s : Fin 16)
variable (arg2 : Memref sig .scVector .hbm S64x1024 .f32) (arg3 : Memref sig .scVector .hbm S8x1x1024 .i32) (arg4 : Memref sig .scVector .hbm S8x64x1024 .f32)

/-- The result position of the tile's position `y`. -/
def oIx (y : S16x1024.Idx) : S8x64x1024.Idx :=
  (Rect.unit (s := S8x64x1024) (k2_off20 (coordsV c s)) S1x16x1024.size (k2_off20_inb (coordsV c s))).emb (Fin.cons ⟨0, Nat.one_pos⟩ y)
def eIx (y : S16x1024.Idx) : S64x1024.Idx :=
  (Rect.unit (s := S64x1024) (k2_off1 (coordsV c s)) S16x1024.size (k2_off1_inb (coordsV c s))).emb y
def iIx (p : S1024.Idx) : S8x1x1024.Idx :=
  (Rect.unit (s := S8x1x1024) (k2_off2 (coordsV c s)) S1x1x1024.size (k2_off2_inb (coordsV c s))).emb (Fin.cons ⟨0, Nat.one_pos⟩ (Fin.cons ⟨0, Nat.one_pos⟩ p))

theorem oIx_0 (y : S16x1024.Idx) : (oIx c s y 0).val = wid c s / 4 := by
  show k2_off20 (coordsV c s) 0 + 1 * 0 = _; rw [off20_0]; omega
theorem oIx_1 (y : S16x1024.Idx) : (oIx c s y 1).val = wid c s % 4 * 16 + (y 0).val := by
  show k2_off20 (coordsV c s) 1 + 1 * (y 0).val = _; rw [off20_1, Nat.one_mul]
theorem oIx_2 (y : S16x1024.Idx) : (oIx c s y 2).val = (y 1).val := by
  show k2_off20 (coordsV c s) 2 + 1 * (y 1).val = _; rw [off20_2]; omega
theorem eIx_0 (y : S16x1024.Idx) : (eIx c s y 0).val = wid c s % 4 * 16 + (y 0).val := by
  show k2_off1 (coordsV c s) 0 + 1 * (y 0).val = _; rw [off1_0, Nat.one_mul]
theorem eIx_1 (y : S16x1024.Idx) : (eIx c s y 1).val = (y 1).val := by
  show k2_off1 (coordsV c s) 1 + 1 * (y 1).val = _; rw [off1_1]; omega
theorem iIx_0 (p : S1024.Idx) : (iIx c s p 0).val = wid c s / 4 := by
  show k2_off2 (coordsV c s) 0 + 1 * 0 = _; rw [off2_0]; omega
theorem iIx_2 (p : S1024.Idx) : (iIx c s p 2).val = (p 0).val := by
  show k2_off2 (coordsV c s) 2 + 1 * (p 0).val = _; rw [off2_2]; omega

theorem oSl_emb (y : S16x1024.Idx) : (oSl (coordsV c s) arg4).view.emb y = arg4.view.emb (oIx c s y) := by
  show arg4.view.emb ((orect c s).emb (Shape.reshapeEquiv _ y)) = _
  rw [Shape.reshapeEquiv_cons_one]; rfl

theorem read_o (f : arg4.view.ty.Contents (Elt F)) (y : S16x1024.Idx) :
    (oSl (coordsV c s) arg4).view.read (Elt F) f y = arg4.view.read (Elt F) f (oIx c s y) := by
  rw [View.read_apply, View.read_apply]
  show _root_.cast _ (f ((oSl (coordsV c s) arg4).view.emb y)) = _
  rw [oSl_emb]
theorem read_e (f : arg2.view.ty.Contents (Elt F)) (y : S16x1024.Idx) :
    (eSl (coordsV c s) arg2).view.read (Elt F) f y = arg2.view.read (Elt F) f (eIx c s y) := rfl
theorem read_i (f : arg3.view.ty.Contents (Elt F)) (p : S1024.Idx) :
    (iSl (coordsV c s) arg3).view.read (Elt F) f p = arg3.view.read (Elt F) f (iIx c s p) := by
  rw [View.read_apply, View.read_apply]
  show _root_.cast _ (f (arg3.view.emb ((Rect.unit (s := S8x1x1024) (k2_off2 (coordsV c s)) S1x1x1024.size (k2_off2_inb (coordsV c s))).emb
    (Shape.reshapeEquiv _ p)))) = _
  rw [show ∀ h, Shape.reshapeEquiv (s := S1x1x1024) (s' := S1024) h p = Fin.cons ⟨0, Nat.one_pos⟩ (Fin.cons ⟨0, Nat.one_pos⟩ p) from fun h => by
    refine Shape.reshapeEquiv_eq_of_rowMajor h ?_
    show (Shape.rowMajorPi ![1, 1, 1024] (Fin.cons ⟨0, Nat.one_pos⟩ (Fin.cons ⟨0, Nat.one_pos⟩ p))).val = (Shape.rowMajorPi ![1024] p).val
    rw [Shape.rowMajorPi_succ_val, Shape.rowMajorPi_succ_val]
    show 0 * _ + (0 * _ + (Shape.rowMajorPi ![1024] p).val) = _
    simp]
  rfl

/-- What `tile_run` leaves in the tile's rectangle is the gathered result there. -/
theorem gath_tile (E : arg2.view.ty.Contents (Elt F)) (I : arg3.view.ty.Contents (Elt F)) (y : S16x1024.Idx)
    (hI : ∀ p, ((iSl (coordsV c s) arg3).view.read (Elt F) I p : BitVec 32).toNat < 1024) :
    (eSl (coordsV c s) arg2).view.read (Elt F) E (gIx ((iSl (coordsV c s) arg3).view.read (Elt F) I) hI y)
      = gath (F := F) (arg2.view.read (Elt F) E) (arg3.view.read (Elt F) I) (oIx c s y) := by
  rw [read_e]
  unfold gath
  congr 1
  funext a
  have hix : iIx c s (ValueIdx.ix1 (y 1)) = ValueIdx.ix3 (oIx c s y 0) 0 (oIx c s y 2) := by
    funext a
    match a with
    | ⟨0, _⟩ => exact Fin.ext ((iIx_0 c s _).trans (oIx_0 c s y).symm)
    | ⟨1, h⟩ => exact Subsingleton.elim (α := Fin 1) _ _
    | ⟨2, _⟩ => exact Fin.ext ((iIx_2 c s _).trans (oIx_2 c s y).symm)
  match a with
  | ⟨0, _⟩ => exact Fin.ext ((eIx_0 c s _).trans (oIx_1 c s y).symm)
  | ⟨1, _⟩ =>
    refine Fin.ext ((eIx_1 c s _).trans ?_)
    have := hI (ValueIdx.ix1 (y 1))
    show ((iSl (coordsV c s) arg3).view.read (Elt F) I (ValueIdx.ix1 (y 1)) : BitVec 32).toNat = _ % 1024
    rw [read_i, hix] at this
    rw [read_i, hix]
    exact (Nat.mod_eq_of_lt this).symm

end Reads

/-! ## One read share per tile -/

/-- Tile `(c, s)`'s read share of a whole array. -/
abbrev sh (p : Fin 2 × Fin 16) : PosShare TreeShare := Transfers.shareTok (Transfers.shareTok fullShare 2 p.1) 16 p.2

/-- What is left of a whole array beside the tiles' shares. -/
def shRest {ℓ : Loc nD τ sig} (f : Buf (Elt F) ℓ) : sProp 𝕄 :=
  iprop((ℓ ↦{Transfers.shareDrop fullShare 2} f) ∗ bigSep Finset.univ fun c : Fin 2 => ℓ ↦{Transfers.shareDrop (Transfers.shareTok fullShare 2 c) 16} f)

theorem shares {ℓ : Loc nD τ sig} (f : Buf (Elt F) ℓ) :
    (ℓ ↦{fullShare} f : sProp 𝕄) = iprop(shRest f ∗ bigSep Finset.univ fun p : Fin 2 × Fin 16 => ℓ ↦{sh p} f) := by
  have h1 : ∀ (q : PosShare TreeShare) (n : ℕ), (ℓ ↦{q} f : sProp 𝕄)
      = iprop((ℓ ↦{Transfers.shareDrop q n} f) ∗ bigSep Finset.univ fun i : Fin n => ℓ ↦{Transfers.shareTok q n i} f) := fun q n =>
    BI.Entails.antisymm (Transfers.pointsTo_toks q n).1 (Transfers.pointsTo_toks q n).2
  unfold shRest
  rw [BI.bigSep_univ_prod, h1 fullShare 2, bigSep_congr (fun (c : Fin 2) _ => h1 (Transfers.shareTok fullShare 2 c) 16), bigSep_sep']
  exact BI.Entails.antisymm BI.sep_assoc' BI.sep_assoc

end Cert.Proof

end
-- ==== Proof.ScCall.lean ====
/-
  The two SparseCore calls as the launch theorem takes them: what the handshakes carry, each tile's task (the body's run at the
  call's arrays and scratch), and how a call's operands split into the tasks' pieces and its results gather from theirs.
-/
module

public import proofs.«01_k».proof.Proof.ScGeom

@[expose] public section

noncomputable section

namespace Cert.Proof

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-! ## The arrays -/

abbrev eLoc (d : Dev nD) : Loc nD τ sig := (SparseCore.T d).loc main_v9_2
abbrev iLocA (d : Dev nD) : Loc nD τ sig := (SparseCore.T d).loc main_v9_0
abbrev iLocB (d : Dev nD) : Loc nD τ sig := (SparseCore.T d).loc main_v10_0
abbrev oLocA (d : Dev nD) : Loc nD τ sig := (SparseCore.T d).loc main_v11
abbrev oLocB (d : Dev nD) : Loc nD τ sig := (SparseCore.T d).loc main_v12

/-- What the calls find: the transposed table, the two halves' indices (all in range), the results' old contents. -/
structure Cts (F : FTy → Type) where
  E : Dev nD → Vec F S64x1024 .f32
  IA : Dev nD → S8x1x1024.Idx → BitVec 32
  IB : Dev nD → S8x1x1024.Idx → BitVec 32
  oA : Dev nD → Vec F S8x64x1024 .f32
  oB : Dev nD → Vec F S8x64x1024 .f32
  hA : ∀ d x, (IA d x).toNat < 1024
  hB : ∀ d x, (IB d x).toNat < 1024

variable (C : Cts F)

/-- A tile's operands in the first call: its read shares of the table and of the indices, its rectangle of the result. -/
abbrev goA (d : Dev nD) (p : Fin 2 × Fin 16) : sProp 𝕄 :=
  iprop((eLoc d ↦{sh p} (C.E d : Buf (Elt F) (eLoc d))) ∗ (iLocA d ↦{sh p} (C.IA d : Buf (Elt F) (iLocA d)))
    ∗ (oLocA d ↦[oset p]{fullShare} (C.oA d : Buf (Elt F) (oLocA d))))
/-- Its results: the shares back, its rectangle holding the gathered result. -/
abbrev tdA (d : Dev nD) (p : Fin 2 × Fin 16) : sProp 𝕄 :=
  iprop((eLoc d ↦{sh p} (C.E d : Buf (Elt F) (eLoc d))) ∗ (iLocA d ↦{sh p} (C.IA d : Buf (Elt F) (iLocA d)))
    ∗ (oLocA d ↦[oset p]{fullShare} (gath (C.E d) (C.IA d) : Buf (Elt F) (oLocA d))))
/-- A tile's operands in the second call. -/
abbrev goB (d : Dev nD) (p : Fin 2 × Fin 16) : sProp 𝕄 :=
  iprop((eLoc d ↦{sh p} (C.E d : Buf (Elt F) (eLoc d))) ∗ (iLocB d ↦{sh p} (C.IB d : Buf (Elt F) (iLocB d)))
    ∗ (oLocB d ↦[oset p]{fullShare} (C.oB d : Buf (Elt F) (oLocB d))))
/-- Its results. -/
abbrev tdB (d : Dev nD) (p : Fin 2 × Fin 16) : sProp 𝕄 :=
  iprop((eLoc d ↦{sh p} (C.E d : Buf (Elt F) (eLoc d))) ∗ (iLocB d ↦{sh p} (C.IB d : Buf (Elt F) (iLocB d)))
    ∗ (oLocB d ↦[oset p]{fullShare} (gath (C.E d) (C.IB d) : Buf (Elt F) (oLocB d))))

def goP (q : Fin 2) (d : Dev nD) (p : Fin 2 × Fin 16) : sProp 𝕄 := if q = 0 then goA C d p else goB C d p
def tdP (q : Fin 2) (d : Dev nD) (p : Fin 2 × Fin 16) : sProp 𝕄 := if q = 0 then tdA C d p else tdB C d p

instance goP_storable (q : Fin 2) (d : Dev nD) (p : Fin 2 × Fin 16) : BI.Storable (upEmb : UEmb _ 𝕄) (goP C q d p) := by
  unfold goP; split <;> infer_instance
instance tdP_storable (q : Fin 2) (d : Dev nD) (p : Fin 2 × Fin 16) : BI.Storable (upEmb : UEmb _ 𝕄) (tdP C q d p) := by
  unfold tdP; split <;> infer_instance

theorem nCore_eq : ∀ q, (K (F := F)).nCore q = 2 | 0 => rfl | 1 => rfl
theorem nSub_eq : ∀ q, (K (F := F)).nSub q = 16 | 0 => rfl | 1 => rfl

/-- Task `(c, i)` of a call as a pair. -/
abbrev tp (q : Fin 2) (c : Fin ((K (F := F)).nCore q)) (i : Fin ((K (F := F)).nSub q)) : Fin 2 × Fin 16 :=
  (Fin.cast (nCore_eq q) c, Fin.cast (nSub_eq q) i)

/-- What the handshakes carry: each SparseCore is handed its tasks' operands and hands back their results. -/
def P : (K (F := F)).Pay (nD := nD) (Val := Elt F) (Name := ℕ) (U := UU) where
  st q d c := bigSep Finset.univ fun i => goP C q d (tp q c i)
  dn q d c := bigSep Finset.univ fun i => tdP C q d (tp q c i)
  go q d c i := goP C q d (tp q c i)
  td q d c i := tdP C q d (tp q c i)
  x := fun _ _ => iprop(emp)

instance P_storable : (P C).IsStorable where
  st q d c := by unfold P; infer_instance
  dn q d c := by unfold P; infer_instance
  go q d c i := by unfold P; infer_instance
  td q d c i := by unfold P; infer_instance

theorem vecSplit (q : Fin 2) : (K (F := F)).VecSplit' (P C) q := by
  intro d c
  show (bigSep Finset.univ fun i => goP C q d (tp q c i)) ⊢ |={Set.univ}=> iprop((bigSep Finset.univ fun i => goP C q d (tp q c i))
    ∗ ((bigSep Finset.univ fun i => tdP C q d (tp q c i)) -∗ bigSep Finset.univ fun i => tdP C q d (tp q c i)))
  iintro H; imodintro
  isplitl [H]; · iexact H
  iintro H; iexact H

/-! ## A call's operands as its tasks' -/

theorem go_tasks (q : Fin 2) (d : Dev nD) :
    (bigSep Finset.univ fun c : Fin ((K (F := F)).nCore q) => (P C).st q d c) = bigSep Finset.univ fun p : Fin 2 × Fin 16 => goP C q d p := by
  rw [BI.bigSep_univ_prod]
  match q with
  | 0 => rfl
  | 1 => rfl
theorem td_tasks (q : Fin 2) (d : Dev nD) :
    (bigSep Finset.univ fun c : Fin ((K (F := F)).nCore q) => (P C).dn q d c) = bigSep Finset.univ fun p : Fin 2 × Fin 16 => tdP C q d p := by
  rw [BI.bigSep_univ_prod]
  match q with
  | 0 => rfl
  | 1 => rfl

theorem rectsA (d : Dev nD) (f : Buf (Elt F) (oLocA d)) :
    (oLocA d ↦{fullShare} f : sProp 𝕄) = bigSep Finset.univ fun p : Fin 2 × Fin 16 => oLocA d ↦[oset p]{fullShare} f := by
  rw [← pointsTo_biUnion Finset.univ (ℓ := oLocA d) oset oset_disjoint, oset_cover]
theorem rectsB (d : Dev nD) (f : Buf (Elt F) (oLocB d)) :
    (oLocB d ↦{fullShare} f : sProp 𝕄) = bigSep Finset.univ fun p : Fin 2 × Fin 16 => oLocB d ↦[oset p]{fullShare} f := by
  rw [← pointsTo_biUnion Finset.univ (ℓ := oLocB d) oset oset_disjoint, oset_cover]

/-- The operands of call 0: the whole arrays, less what is kept of the two that are only read. -/
theorem go_joinA (d : Dev nD) :
    iprop((eLoc d ↦{fullShare} (C.E d : Buf (Elt F) (eLoc d))) ∗ (iLocA d ↦{fullShare} (C.IA d : Buf (Elt F) (iLocA d)))
        ∗ (oLocA d ↦{fullShare} (C.oA d : Buf (Elt F) (oLocA d))))
      ⊢ (iprop((shRest (ℓ := eLoc d) (C.E d) ∗ shRest (ℓ := iLocA d) (C.IA d))
          ∗ bigSep Finset.univ fun c : Fin ((K (F := F)).nCore 0) => (P C).st 0 d c) : sProp 𝕄) := by
  rw [go_tasks C 0 d, shares (ℓ := eLoc d) (C.E d), shares (ℓ := iLocA d) (C.IA d), rectsA d (C.oA d)]
  rw [show (bigSep Finset.univ fun p : Fin 2 × Fin 16 => goP C 0 d p) = bigSep Finset.univ fun p => goA C d p from rfl, bigSep_sep', bigSep_sep']
  iintro ⟨⟨E1, E2⟩, ⟨I1, I2⟩, O⟩
  isplitl [E1 I1]
  · isplitl [E1]; · iexact E1
    iexact I1
  isplitl [E2]; · iexact E2
  isplitl [I2]; · iexact I2
  iexact O

/-- The results of call 0: the whole arrays back, the result gathered. -/
theorem td_joinA (d : Dev nD) :
    iprop((shRest (ℓ := eLoc d) (C.E d) ∗ shRest (ℓ := iLocA d) (C.IA d))
          ∗ bigSep Finset.univ fun c : Fin ((K (F := F)).nCore 0) => (P C).dn 0 d c)
      ⊢ (iprop((eLoc d ↦{fullShare} (C.E d : Buf (Elt F) (eLoc d))) ∗ (iLocA d ↦{fullShare} (C.IA d : Buf (Elt F) (iLocA d)))
        ∗ (oLocA d ↦{fullShare} (gath (C.E d) (C.IA d) : Buf (Elt F) (oLocA d)))) : sProp 𝕄) := by
  rw [td_tasks C 0 d, shares (ℓ := eLoc d) (C.E d), shares (ℓ := iLocA d) (C.IA d), rectsA d (gath (C.E d) (C.IA d))]
  rw [show (bigSep Finset.univ fun p : Fin 2 × Fin 16 => tdP C 0 d p) = bigSep Finset.univ fun p => tdA C d p from rfl, bigSep_sep', bigSep_sep']
  iintro ⟨⟨E1, I1⟩, E2, I2, O⟩
  isplitl [E1 E2]
  · isplitl [E1]; · iexact E1
    iexact E2
  isplitl [I1 I2]
  · isplitl [I1]; · iexact I1
    iexact I2
  iexact O

/-! ## The task of call 0 -/

section TileA

variable (d : Dev nD) (c : Fin 2) (s : Fin 16)

abbrev pvA : Proc τ := .scVector (c.castLE hcore2) (s.castLE hsub2)
abbrev thA : Thread nD τ := V d (c.castLE hcore2) (s.castLE hsub2)
abbrev clA0 : GSem nD τ sig := (thA d c s, SemLoc.dma cc2_scoped0.sem)
abbrev clA1 : GSem nD τ sig := (thA d c s, SemLoc.dma cc2_scoped1.sem)
abbrev clA2 : GSem nD τ sig := (thA d c s, SemLoc.dma cc2_scoped2.sem)

omit [FloatOps F] in
/-- The subcore's own cells: the three the task names, and the rest. -/
theorem ownSemsA :
    (SparseCore.Cfg.ownSems0 (thA d c s) : sProp 𝕄)
      = iprop(semVal (clA0 d c s) 0 ∗ semVal (clA1 d c s) 0 ∗ semVal (clA2 d c s) 0
          ∗ bigSep ((((SparseCore.Cfg.ownCells (thA d c s)).erase (clA0 d c s)).erase (clA1 d c s)).erase (clA2 d c s)) fun g => semVal g 0) := by
  unfold SparseCore.Cfg.ownSems0
  rw [SparseCore.bigSep_erase' ((SparseCore.Cfg.mem_ownCells (g := clA0 d c s)).mpr ⟨rfl, by
      show (SemLoc.dma cc2_scoped0.sem : SemLoc sig).isScoped .scVector = true; decide⟩),
    SparseCore.bigSep_erase' (Finset.mem_erase.mpr ⟨by simp [clA0, clA1]; decide, (SparseCore.Cfg.mem_ownCells (g := clA1 d c s)).mpr ⟨rfl, by
      show (SemLoc.dma cc2_scoped1.sem : SemLoc sig).isScoped .scVector = true; decide⟩⟩),
    SparseCore.bigSep_erase' (Finset.mem_erase.mpr ⟨by simp [clA1, clA2]; decide, Finset.mem_erase.mpr ⟨by simp [clA0, clA2]; decide,
      (SparseCore.Cfg.mem_ownCells (g := clA2 d c s)).mpr ⟨rfl, by show (SemLoc.dma cc2_scoped2.sem : SemLoc sig).isScoped .scVector = true; decide⟩⟩⟩)]

omit [FloatOps F] in
/-- Its own buffers: the three scratch arrays, each at some contents, and the rest. -/
theorem ownBufsA :
    (SparseCore.Cfg.ownBufs (thA d c s) : sProp 𝕄)
      = iprop((∃ f, (thA d c s).loc cc2_scratch0 ↦{fullShare} f) ∗ (∃ f, (thA d c s).loc cc2_scratch1 ↦{fullShare} f)
          ∗ (∃ f, (thA d c s).loc cc2_scratch2 ↦{fullShare} f)
          ∗ bigSep ((((SparseCore.Cfg.ownRefs (τ := τ) (pvA c s)).erase ((pvA c s).devRef cc2_scratch0)).erase
              ((pvA c s).devRef cc2_scratch1)).erase ((pvA c s).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := pvA c s) (b := (pvA c s).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := pvA c s) (b := (pvA c s).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := pvA c s) (b := (pvA c s).devRef cc2_scratch2) rfl⟩⟩)]

local notation "eAV" => (Memref.whole Cert.KernelIdeal.main_v9_2_scv : Memref Cert.KernelIdeal.sig Kind.scVector Space.hbm Cert.KernelIdeal.S64x1024 EltTy.f32)
local notation "iAV" => (Memref.whole Cert.KernelIdeal.main_v9_0_scv : Memref Cert.KernelIdeal.sig Kind.scVector Space.hbm Cert.KernelIdeal.S8x1x1024 EltTy.i32)
local notation "oAV" => (Memref.whole Cert.KernelIdeal.main_v11_scv : Memref Cert.KernelIdeal.sig Kind.scVector Space.hbm Cert.KernelIdeal.S8x64x1024 EltTy.f32)
local notation "sA0" => (Memref.whole Cert.KernelIdeal.cc2_scratch0 : Memref Cert.KernelIdeal.sig Kind.scVector Space.vmem Cert.KernelIdeal.S1024 EltTy.i32)
local notation "sA1" => (Memref.whole Cert.KernelIdeal.cc2_scratch1 : Memref Cert.KernelIdeal.sig Kind.scVector Space.vmem Cert.KernelIdeal.S16x1024 EltTy.f32)
local notation "sA2" => (Memref.whole Cert.KernelIdeal.cc2_scratch2 : Memref Cert.KernelIdeal.sig Kind.scVector Space.vmem Cert.KernelIdeal.S16x1024 EltTy.f32)

omit [FloatOps F] in
theorem oA_set : (oSl (coordsV c s) oAV).view.set = oset (c, s) := by
  show (((View.whole (main_v11_scv : Ref sig .scVector)).slice (orect c s)).reshape _ _).set = _
  rw [View.set_reshape, View.set_slice]; exact Finset.map_refl

/-- The task from what it is handed to what it hands back. -/
theorem tileA (hF : (K (F := F)).Facts) (O : CellTallies nD τ sig (HIx 2)) (W : Waits sig (HIx 2)) (hO : ∀ g, O g none = 0) :
    (iprop(levAts (K (F := F)).L (K (F := F)).lev ∗ emp ∗ goA C d (c, s) ∗ scopedBufs (thA d c s) ∗ scopedSems0 (thA d c s) ∗ owes (thA d c s) O W) : sProp 𝕄)
      ⊢ wp frame (wpE (defs₀ (F := F)) 𝒱₀ (thA d c s) none) Set.univ
          (cc2__sc_gather (coordsV c s) eAV (Memref.isWhole_whole _) iAV (Memref.isWhole_whole _) oAV (Memref.isWhole_whole _)
            sA0 (Memref.isWhole_whole _) sA1 (Memref.isWhole_whole _) sA2 (Memref.isWhole_whole _) cc2_scoped0 cc2_scoped1 cc2_scoped2)
          fun _ => iprop(tdA C d (c, s) ∗ scopedBufs (thA d c s) ∗ scopedSems0 (thA d c s)
            ∗ ∃ W', ⌜∀ p ∈ W', p ∈ W ∨ p.2 = none ∨ p.2 = some (0 : Fin 2)⌝ ∗ owes (thA d c s) O W') := by
  have hI : ∀ p, ((iSl (coordsV c s) iAV).view.read (Elt F) (C.IA d) p : BitVec 32).toNat < 1024 := fun p => by
    rw [read_i]; exact C.hA d _
  rw [(K (F := F)).scopedBufs_V hF d (c.castLE hcore2) (s.castLE hsub2),
    SparseCore.Cfg.scopedSems0_V (Val := Elt F) d (c.castLE hcore2) (s.castLE hsub2), ownSemsA, ownBufsA]
  iintro ⟨#Hlv, -, ⟨HE, HI, Ho⟩, ⟨⟨%g0, H0⟩, ⟨%g1, H1⟩, ⟨%g2, H2⟩, Hbufs⟩, ⟨S0, S1, S2, Hsems⟩, HO⟩
  ihave Hmw := (show levAts (K (F := F)).L (K (F := F)).lev ⊢ Transfers.MayWaits (thA d c s) (default : HIx 2) O from
    (K (F := F)).mayWaits_none (thr := thA d c s) hO) $$ Hlv
  iapply (wp_wand_r Idealize.ShloMosaic.frame (wpE (defs₀ (F := F)) 𝒱₀ (thA d c s) none) Set.univ)
  isplitl [HE HI Ho H0 H1 H2 S0 S1 S2 HO]
  · iapply (tile_run d (coordsV c s) eAV (Memref.isWhole_whole _) iAV (Memref.isWhole_whole _) oAV (Memref.isWhole_whole _)
      sA0 (Memref.isWhole_whole _) sA1 (Memref.isWhole_whole _) sA2 (Memref.isWhole_whole _) cc2_scoped0 cc2_scoped1 cc2_scoped2
      (sh (c, s)) (sh (c, s)) O W (C.E d) (C.IA d) (C.oA d) hI g0 g1 g2)
    isplitr; · iexact Hmw
    isplitl [HE]; · iexact HE
    isplitl [HI]; · iexact HI
    isplitl [Ho]; · rw [oA_set]; iexact Ho
    isplitl [H0]; · iexact H0
    isplitl [H1]; · iexact H1
    isplitl [H2]; · iexact H2
    isplitl [S0]; · iexact S0
    isplitl [S1]; · iexact S1
    isplitl [S2]; · iexact S2
    iexact HO
  iintro %_ ⟨HE, HI, ⟨%o', %ho', Ho⟩, H0, H1, H2, S0, S1, S2, ⟨%W', %hW', HO⟩⟩
  isplitl [HE HI Ho]
  · isplitl [HE]; · iexact HE
    isplitl [HI]; · iexact HI
    iapply (show ((oSl (coordsV c s) oAV).view.loc (thr d (coordsV c s)) ↦[(oSl (coordsV c s) oAV).view.set]{fullShare} o' : sProp 𝕄)
        ⊢ (oLocA d ↦[oset (c, s)]{fullShare} (gath (C.E d) (C.IA d) : Buf (Elt F) (oLocA d))) from by
      rw [oA_set]
      refine Entails.of_eq (pointsTo_congr (ℓ := oLocA d) fun z hz => ?_)
      rw [← oA_set] at hz
      obtain ⟨y, -, rfl⟩ := Finset.mem_map.mp hz
      have h := ho' y
      rw [gath_tile, View.read_apply] at h
      rw [oSl_emb]
      rw [oSl_emb] at h
      exact h)
    iexact Ho
  isplitl [H0 H1 H2 Hbufs]
  · isplitl [H0]; · iexact H0
    isplitl [H1]; · iexact H1
    isplitl [H2]; · iexact H2
    iexact Hbufs
  isplitl [S0 S1 S2 Hsems]
  · isplitl [S0]; · iexact S0
    isplitl [S1]; · iexact S1
    isplitl [S2]; · iexact S2
    iexact Hsems
  iexists W'; isplitr
  · ipureintro; intro p hp
    exact (hW' p hp).imp_right .inl
  · iexact HO

omit d c s in
theorem defs₀_vecA (c : Fin τ.nSC) (s : Fin τ.nSub) :
    defs₀ (F := F) (.scVector c s) 2 ()
      = SparseCore.onTile hcore2 hsub2 (fun c s => cc2__sc_gather (coordsV c s)
          eAV (Memref.isWhole_whole _) iAV (Memref.isWhole_whole _) oAV (Memref.isWhole_whole _)
            sA0 (Memref.isWhole_whole _) sA1 (Memref.isWhole_whole _) sA2 (Memref.isWhole_whole _) cc2_scoped0 cc2_scoped1 cc2_scoped2) ⟨⟩ c s := rfl

omit d c s in
theorem tileOblA (hF : (K (F := F)).Facts) : (K (F := F)).TileObl (D (F := F)) 𝒱 (P C) v₀ 0 := by
  intro d c i O W hO _ _
  simp only [show (P C).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vecA]; simp only [SparseCore.onTile, hci, and_self, ↓reduceDIte]
  exact tileA C d ⟨_, hci.1⟩ ⟨_, hci.2⟩ hF O W hO

end TileA

/-- The operands of call 1: the whole arrays, less what is kept of the two that are only read. -/
theorem go_joinB (d : Dev nD) :
    iprop((eLoc d ↦{fullShare} (C.E d : Buf (Elt F) (eLoc d))) ∗ (iLocB d ↦{fullShare} (C.IB d : Buf (Elt F) (iLocB d)))
        ∗ (oLocB d ↦{fullShare} (C.oB d : Buf (Elt F) (oLocB d))))
      ⊢ (iprop((shRest (ℓ := eLoc d) (C.E d) ∗ shRest (ℓ := iLocB d) (C.IB d))
          ∗ bigSep Finset.univ fun c : Fin ((K (F := F)).nCore 1) => (P C).st 1 d c) : sProp 𝕄) := by
  rw [go_tasks C 1 d, shares (ℓ := eLoc d) (C.E d), shares (ℓ := iLocB d) (C.IB d), rectsB d (C.oB d)]
  rw [show (bigSep Finset.univ fun p : Fin 2 × Fin 16 => goP C 1 d p) = bigSep Finset.univ fun p => goB C d p from rfl, bigSep_sep', bigSep_sep']
  iintro ⟨⟨E1, E2⟩, ⟨I1, I2⟩, O⟩
  isplitl [E1 I1]
  · isplitl [E1]; · iexact E1
    iexact I1
  isplitl [E2]; · iexact E2
  isplitl [I2]; · iexact I2
  iexact O

/-- The results of call 1: the whole arrays back, the result gathered. -/
theorem td_joinB (d : Dev nD) :
    iprop((shRest (ℓ := eLoc d) (C.E d) ∗ shRest (ℓ := iLocB d) (C.IB d))
          ∗ bigSep Finset.univ fun c : Fin ((K (F := F)).nCore 1) => (P C).dn 1 d c)
      ⊢ (iprop((eLoc d ↦{fullShare} (C.E d : Buf (Elt F) (eLoc d))) ∗ (iLocB d ↦{fullShare} (C.IB d : Buf (Elt F) (iLocB d)))
        ∗ (oLocB d ↦{fullShare} (gath (C.E d) (C.IB d) : Buf (Elt F) (oLocB d)))) : sProp 𝕄) := by
  rw [td_tasks C 1 d, shares (ℓ := eLoc d) (C.E d), shares (ℓ := iLocB d) (C.IB d), rectsB d (gath (C.E d) (C.IB d))]
  rw [show (bigSep Finset.univ fun p : Fin 2 × Fin 16 => tdP C 1 d p) = bigSep Finset.univ fun p => tdB C d p from rfl, bigSep_sep', bigSep_sep']
  iintro ⟨⟨E1, I1⟩, E2, I2, O⟩
  isplitl [E1 E2]
  · isplitl [E1]; · iexact E1
    iexact E2
  isplitl [I1 I2]
  · isplitl [I1]; · iexact I1
    iexact I2
  iexact O

/-! ## The task of call 1 -/

section TileB

variable (d : Dev nD) (c : Fin 2) (s : Fin 16)

abbrev pvB : Proc τ := .scVector (c.castLE hcore3) (s.castLE hsub3)
abbrev thB : Thread nD τ := V d (c.castLE hcore3) (s.castLE hsub3)
abbrev clB0 : GSem nD τ sig := (thB d c s, SemLoc.dma cc3_scoped0.sem)
abbrev clB1 : GSem nD τ sig := (thB d c s, SemLoc.dma cc3_scoped1.sem)
abbrev clB2 : GSem nD τ sig := (thB d c s, SemLoc.dma cc3_scoped2.sem)

omit [FloatOps F] in
/-- The subcore's own cells: the three the task names, and the rest. -/
theorem ownSemsB :
    (SparseCore.Cfg.ownSems0 (thB d c s) : sProp 𝕄)
      = iprop(semVal (clB0 d c s) 0 ∗ semVal (clB1 d c s) 0 ∗ semVal (clB2 d c s) 0
          ∗ bigSep ((((SparseCore.Cfg.ownCells (thB d c s)).erase (clB0 d c s)).erase (clB1 d c s)).erase (clB2 d c s)) fun g => semVal g 0) := by
  unfold SparseCore.Cfg.ownSems0
  rw [SparseCore.bigSep_erase' ((SparseCore.Cfg.mem_ownCells (g := clB0 d c s)).mpr ⟨rfl, by
      show (SemLoc.dma cc3_scoped0.sem : SemLoc sig).isScoped .scVector = true; decide⟩),
    SparseCore.bigSep_erase' (Finset.mem_erase.mpr ⟨by simp [clB0, clB1]; decide, (SparseCore.Cfg.mem_ownCells (g := clB1 d c s)).mpr ⟨rfl, by
      show (SemLoc.dma cc3_scoped1.sem : SemLoc sig).isScoped .scVector = true; decide⟩⟩),
    SparseCore.bigSep_erase' (Finset.mem_erase.mpr ⟨by simp [clB1, clB2]; decide, Finset.mem_erase.mpr ⟨by simp [clB0, clB2]; decide,
      (SparseCore.Cfg.mem_ownCells (g := clB2 d c s)).mpr ⟨rfl, by show (SemLoc.dma cc3_scoped2.sem : SemLoc sig).isScoped .scVector = true; decide⟩⟩⟩)]

omit [FloatOps F] in
/-- Its own buffers: the three scratch arrays, each at some contents, and the rest. -/
theorem ownBufsB :
    (SparseCore.Cfg.ownBufs (thB d c s) : sProp 𝕄)
      = iprop((∃ f, (thB d c s).loc cc3_scratch0 ↦{fullShare} f) ∗ (∃ f, (thB d c s).loc cc3_scratch1 ↦{fullShare} f)
          ∗ (∃ f, (thB d c s).loc cc3_scratch2 ↦{fullShare} f)
          ∗ bigSep ((((SparseCore.Cfg.ownRefs (τ := τ) (pvB c s)).erase ((pvB c s).devRef cc3_scratch0)).erase
              ((pvB c s).devRef cc3_scratch1)).erase ((pvB c s).devRef cc3_scratch2))
              fun b => iprop(∃ f, ((d, b) : Loc nD τ sig) ↦{fullShare} f)) := by
  unfold SparseCore.Cfg.ownBufs
  refine (SparseCore.bigSep_erase' (SparseCore.Cfg.mem_ownRefs_of_owner (p := pvB c s) (b := (pvB c s).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := pvB c s) (b := (pvB c s).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
    SparseCore.Cfg.mem_ownRefs_of_owner (p := pvB c s) (b := (pvB c s).devRef cc3_scratch2) rfl⟩⟩)]

local notation "eBV" => (Memref.whole Cert.KernelIdeal.main_v9_2_scv : Memref Cert.KernelIdeal.sig Kind.scVector Space.hbm Cert.KernelIdeal.S64x1024 EltTy.f32)
local notation "iBV" => (Memref.whole Cert.KernelIdeal.main_v10_0_scv : Memref Cert.KernelIdeal.sig Kind.scVector Space.hbm Cert.KernelIdeal.S8x1x1024 EltTy.i32)
local notation "oBV" => (Memref.whole Cert.KernelIdeal.main_v12_scv : Memref Cert.KernelIdeal.sig Kind.scVector Space.hbm Cert.KernelIdeal.S8x64x1024 EltTy.f32)
local notation "sB0" => (Memref.whole Cert.KernelIdeal.cc3_scratch0 : Memref Cert.KernelIdeal.sig Kind.scVector Space.vmem Cert.KernelIdeal.S1024 EltTy.i32)
local notation "sB1" => (Memref.whole Cert.KernelIdeal.cc3_scratch1 : Memref Cert.KernelIdeal.sig Kind.scVector Space.vmem Cert.KernelIdeal.S16x1024 EltTy.f32)
local notation "sB2" => (Memref.whole Cert.KernelIdeal.cc3_scratch2 : Memref Cert.KernelIdeal.sig Kind.scVector Space.vmem Cert.KernelIdeal.S16x1024 EltTy.f32)

omit [FloatOps F] in
theorem oB_set : (oSl (coordsV c s) oBV).view.set = oset (c, s) := by
  show (((View.whole (main_v12_scv : Ref sig .scVector)).slice (orect c s)).reshape _ _).set = _
  rw [View.set_reshape, View.set_slice]; exact Finset.map_refl

/-- The task from what it is handed to what it hands back. -/
theorem tileB (hF : (K (F := F)).Facts) (O : CellTallies nD τ sig (HIx 2)) (W : Waits sig (HIx 2)) (hO : ∀ g, O g none = 0) :
    (iprop(levAts (K (F := F)).L (K (F := F)).lev ∗ emp ∗ goB C d (c, s) ∗ scopedBufs (thB d c s) ∗ scopedSems0 (thB d c s) ∗ owes (thB d c s) O W) : sProp 𝕄)
      ⊢ wp frame (wpE (defs₀ (F := F)) 𝒱₀ (thB d c s) none) Set.univ
          (cc3__sc_gather (coordsV c s) eBV (Memref.isWhole_whole _) iBV (Memref.isWhole_whole _) oBV (Memref.isWhole_whole _)
            sB0 (Memref.isWhole_whole _) sB1 (Memref.isWhole_whole _) sB2 (Memref.isWhole_whole _) cc3_scoped0 cc3_scoped1 cc3_scoped2)
          fun _ => iprop(tdB C d (c, s) ∗ scopedBufs (thB d c s) ∗ scopedSems0 (thB d c s)
            ∗ ∃ W', ⌜∀ p ∈ W', p ∈ W ∨ p.2 = none ∨ p.2 = some (1 : Fin 2)⌝ ∗ owes (thB d c s) O W') := by
  have hI : ∀ p, ((iSl (coordsV c s) iBV).view.read (Elt F) (C.IB d) p : BitVec 32).toNat < 1024 := fun p => by
    rw [read_i]; exact C.hB d _
  rw [(K (F := F)).scopedBufs_V hF d (c.castLE hcore3) (s.castLE hsub3),
    SparseCore.Cfg.scopedSems0_V (Val := Elt F) d (c.castLE hcore3) (s.castLE hsub3), ownSemsB, ownBufsB]
  iintro ⟨#Hlv, -, ⟨HE, HI, Ho⟩, ⟨⟨%g0, H0⟩, ⟨%g1, H1⟩, ⟨%g2, H2⟩, Hbufs⟩, ⟨S0, S1, S2, Hsems⟩, HO⟩
  ihave Hmw := (show levAts (K (F := F)).L (K (F := F)).lev ⊢ Transfers.MayWaits (thB d c s) (default : HIx 2) O from
    (K (F := F)).mayWaits_none (thr := thB d c s) hO) $$ Hlv
  iapply (wp_wand_r Idealize.ShloMosaic.frame (wpE (defs₀ (F := F)) 𝒱₀ (thB d c s) none) Set.univ)
  isplitl [HE HI Ho H0 H1 H2 S0 S1 S2 HO]
  · iapply (tile_run d (coordsV c s) eBV (Memref.isWhole_whole _) iBV (Memref.isWhole_whole _) oBV (Memref.isWhole_whole _)
      sB0 (Memref.isWhole_whole _) sB1 (Memref.isWhole_whole _) sB2 (Memref.isWhole_whole _) cc3_scoped0 cc3_scoped1 cc3_scoped2
      (sh (c, s)) (sh (c, s)) O W (C.E d) (C.IB d) (C.oB d) hI g0 g1 g2)
    isplitr; · iexact Hmw
    isplitl [HE]; · iexact HE
    isplitl [HI]; · iexact HI
    isplitl [Ho]; · rw [oB_set]; iexact Ho
    isplitl [H0]; · iexact H0
    isplitl [H1]; · iexact H1
    isplitl [H2]; · iexact H2
    isplitl [S0]; · iexact S0
    isplitl [S1]; · iexact S1
    isplitl [S2]; · iexact S2
    iexact HO
  iintro %_ ⟨HE, HI, ⟨%o', %ho', Ho⟩, H0, H1, H2, S0, S1, S2, ⟨%W', %hW', HO⟩⟩
  isplitl [HE HI Ho]
  · isplitl [HE]; · iexact HE
    isplitl [HI]; · iexact HI
    iapply (show ((oSl (coordsV c s) oBV).view.loc (thr d (coordsV c s)) ↦[(oSl (coordsV c s) oBV).view.set]{fullShare} o' : sProp 𝕄)
        ⊢ (oLocB d ↦[oset (c, s)]{fullShare} (gath (C.E d) (C.IB d) : Buf (Elt F) (oLocB d))) from by
      rw [oB_set]
      refine Entails.of_eq (pointsTo_congr (ℓ := oLocB d) fun z hz => ?_)
      rw [← oB_set] at hz
      obtain ⟨y, -, rfl⟩ := Finset.mem_map.mp hz
      have h := ho' y
      rw [gath_tile, View.read_apply] at h
      rw [oSl_emb]
      rw [oSl_emb] at h
      exact h)
    iexact Ho
  isplitl [H0 H1 H2 Hbufs]
  · isplitl [H0]; · iexact H0
    isplitl [H1]; · iexact H1
    isplitl [H2]; · iexact H2
    iexact Hbufs
  isplitl [S0 S1 S2 Hsems]
  · isplitl [S0]; · iexact S0
    isplitl [S1]; · iexact S1
    isplitl [S2]; · iexact S2
    iexact Hsems
  iexists W'; isplitr
  · ipureintro; intro p hp
    exact (hW' p hp).imp_right .inl
  · iexact HO

omit d c s in
theorem defs₀_vecB (c : Fin τ.nSC) (s : Fin τ.nSub) :
    defs₀ (F := F) (.scVector c s) 3 ()
      = SparseCore.onTile hcore3 hsub3 (fun c s => cc3__sc_gather (coordsV c s)
          eBV (Memref.isWhole_whole _) iBV (Memref.isWhole_whole _) oBV (Memref.isWhole_whole _)
            sB0 (Memref.isWhole_whole _) sB1 (Memref.isWhole_whole _) sB2 (Memref.isWhole_whole _) cc3_scoped0 cc3_scoped1 cc3_scoped2) ⟨⟩ c s := rfl

omit d c s in
theorem tileOblB (hF : (K (F := F)).Facts) : (K (F := F)).TileObl (D (F := F)) 𝒱 (P C) v₀ 1 := by
  intro d c i O W hO _ _
  simp only [show (P C).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vecB]; simp only [SparseCore.onTile, hci, and_self, ↓reduceDIte]
  exact tileB C d ⟨_, hci.1⟩ ⟨_, hci.2⟩ hF O W hO

end TileB

theorem tileObl (hF : (K (F := F)).Facts) : ∀ q, (K (F := F)).TileObl (D (F := F)) 𝒱 (P C) v₀ q
  | 0 => tileOblA C hF
  | 1 => tileOblB C hF

end Cert.Proof

end
-- ==== Proof.TcBody.lean ====
/-
  The two TensorCore calls' bodies: what one grid point computes from the blocks it is handed — a column of nearest-codeword
  indices, the sum of the least distances added to a running total, and (first call only) the transposed table — proved once per
  body by executing it over the printed payloads.
-/
module

public import proofs.«01_k».proof.Proof.Setup

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## What a grid point computes -/

/-- The rectangle `r` of the array `g`. -/
def part {S : Shape} {α : Type} (r : Rect S) (g : S.Idx → α) : r.shape.Idx → α := fun j => g (r.toLoadRect.idx j)

/-- The codewords and their squared norms, 256 at a time. -/
abbrev e0 (e : Vec F S1024x64 .f32) : Vec F S256x64 .f32 := part (Rect.unit (s := S1024x64) ![0, 0] S256x64.size inb_S1024x64_S256x64_0_0) e
abbrev e1 (e : Vec F S1024x64 .f32) : Vec F S256x64 .f32 := part (Rect.unit (s := S1024x64) ![256, 0] S256x64.size inb_S1024x64_S256x64_256_0) e
abbrev e2 (e : Vec F S1024x64 .f32) : Vec F S256x64 .f32 := part (Rect.unit (s := S1024x64) ![512, 0] S256x64.size inb_S1024x64_S256x64_512_0) e
abbrev e3 (e : Vec F S1024x64 .f32) : Vec F S256x64 .f32 := part (Rect.unit (s := S1024x64) ![768, 0] S256x64.size inb_S1024x64_S256x64_768_0) e
abbrev n0 (n : Vec F S1024x1 .f32) : Vec F S256x1 .f32 := part (Rect.unit (s := S1024x1) ![0, 0] S256x1.size inb_S1024x1_S256x1_0_0) n
abbrev n1 (n : Vec F S1024x1 .f32) : Vec F S256x1 .f32 := part (Rect.unit (s := S1024x1) ![256, 0] S256x1.size inb_S1024x1_S256x1_256_0) n
abbrev n2 (n : Vec F S1024x1 .f32) : Vec F S256x1 .f32 := part (Rect.unit (s := S1024x1) ![512, 0] S256x1.size inb_S1024x1_S256x1_512_0) n
abbrev n3 (n : Vec F S1024x1 .f32) : Vec F S256x1 .f32 := part (Rect.unit (s := S1024x1) ![768, 0] S256x1.size inb_S1024x1_S256x1_768_0) n

/-- What the first half of the body hands on: the first 768 codewords' running index and running minimum. -/
abbrev pIdx (x : Vec F S1x64x512 .f32) (e : Vec F S1024x64 .f32) (n : Vec F S1024x1 .f32) (xs : Vec F S1x1x512 .f32) : IVec S1x512 32 :=
  k0_pay12 (k0_pay2 x) (k0_pay3 xs) (k0_pay5 x xs (e0 e) (n0 n)) (k0_pay6 x xs (e0 e) (n0 n)) (k0_pay7 x xs (e1 e) (n1 n)) (e2 e) (n2 n)
abbrev pMin (x : Vec F S1x64x512 .f32) (e : Vec F S1024x64 .f32) (n : Vec F S1024x1 .f32) (xs : Vec F S1x1x512 .f32) : FVec F S1x512 .f32 :=
  k0_pay13 (k0_pay2 x) (k0_pay3 xs) (k0_pay5 x xs (e0 e) (n0 n)) (k0_pay7 x xs (e1 e) (n1 n)) (e2 e) (n2 n)

/-- The indices a point stores. -/
def dIdx (x : Vec F S1x64x512 .f32) (e : Vec F S1024x64 .f32) (n : Vec F S1024x1 .f32) (xs : Vec F S1x1x512 .f32) : IVec S1x1x512 32 :=
  k0_pay18 (k0_pay3 xs) (pIdx x e n xs) (pMin x e n xs) (k0_pay14 (k0_pay2 x) (e3 e)) (k0_pay15 (n3 n))
/-- The running total a point leaves, from the one it finds. -/
def dLoss (x : Vec F S1x64x512 .f32) (e : Vec F S1024x64 .f32) (n : Vec F S1024x1 .f32) (xs : Vec F S1x1x512 .f32) (a : Vec F S1x1 .f32) : FVec F S1x1 .f32 :=
  k0_pay20 (k0_pay3 xs) (pMin x e n xs) (k0_pay14 (k0_pay2 x) (e3 e)) (k0_pay15 (n3 n)) a

/-! ## The bodies, run -/

/-- A memref's contents on core `c`, and the memref held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem readAt_part {sp : Space} {S : Shape} {e : EltTy} (M : Memref sig .tc sp S e) (r : Rect S) (f : M.view.ty.Contents (Elt F)) :
    M.view.readAt (Elt F) r.toLoadRect f = part r (M.view.read (Elt F) f) := rfl

theorem part_full {S : Shape} {α : Type} {off : Fin S.rank → ℕ} (inb : ∀ a, off a + S.size a ≤ S.size a) (g : S.Idx → α) :
    part (Rect.unit (s := S) off S.size inb) g = g :=
  funext fun j => congrArg g (funext fun a => Fin.ext (by
    show off a + 1 * (j a).val = (j a).val
    have := inb a
    omega))

theorem full_emb {S : Shape} {off : Fin S.rank → ℕ} (inb : ∀ a, off a + S.size a ≤ S.size a) (j : S.Idx) :
    (Rect.unit (s := S) off S.size inb).emb j = j :=
  funext fun a => Fin.ext (by
    show off a + 1 * (j a).val = (j a).val
    have := inb a
    omega)

/-- A whole memref overwritten by one store of its size reads as what was stored. -/
theorem read_full {sp : Space} {S : Shape} {e : EltTy} (M : Memref sig .tc sp S e) {off : Fin S.rank → ℕ} (inb : ∀ a, off a + S.size a ≤ S.size a)
    (f : M.view.ty.Contents (Elt F)) (w : S.Idx → Elt F e) (l : List ((r : Rect S) × (r.shape.Idx → Elt F e))) :
    M.view.read (Elt F) (M.view.writes (Elt F) f (⟨Rect.unit off S.size inb, w⟩ :: l)) = w :=
  funext fun y => by
    have h := View.read_writes_cons_emb (v := M.view) f (Rect.unit off S.size inb) w l y
    rw [full_emb] at h
    exact h

section Body0

variable (c : Dev nD) (i : grid0.Coords)
  (arg2 : Memref sig .tc .vmem S1x64x512 .f32) (harg2 : arg2.IsWhole) (arg3 : Memref sig .tc .vmem S1024x64 .f32) (harg3 : arg3.IsWhole)
  (arg4 : Memref sig .tc .vmem S1024x1 .f32) (harg4 : arg4.IsWhole) (arg5 : Memref sig .tc .vmem S1x1x512 .f32) (harg5 : arg5.IsWhole)
  (arg6 : Memref sig .tc .vmem S1x1x512 .i32) (harg6 : arg6.IsWhole) (arg7 : Memref sig .tc .vmem S1x1 .f32) (harg7 : arg7.IsWhole)
  (arg8 : Memref sig .tc .vmem S64x1024 .f32) (harg8 : arg8.IsWhole)
  (f2 : Bf (F := F) c arg2) (f3 : Bf (F := F) c arg3) (f4 : Bf (F := F) c arg4) (f5 : Bf (F := F) c arg5)

local notation "X" => View.read (Elt F) (Memref.view arg2) f2
local notation "E" => View.read (Elt F) (Memref.view arg3) f3
local notation "N" => View.read (Elt F) (Memref.view arg4) f4
local notation "XS" => View.read (Elt F) (Memref.view arg5) f5

theorem part1_0 :
    (iprop(pt c arg2 f2 ∗ pt c arg3 f3 ∗ pt c arg4 f4 ∗ pt c arg5 f5) : sProp 𝕄)
      ⊢ wp frame (wpE (defs₀ (F := F)) 𝒱₀ c none) Set.univ (k0_part1 i arg2 harg2 arg3 harg3 arg4 harg4 arg5 harg5 arg6 harg6 arg7 harg7 arg8 harg8)
        fun r => iprop(⌜r = ⟨BitVec.ofNat 32 (i 0).val, BitVec.ofNat 32 (i 1).val, k0_pay2 X, k0_pay3 XS, k0_pay5 X XS (e0 E) (n0 N), k0_pay6 X XS (e0 E) (n0 N),
            k0_pay7 X XS (e1 E) (n1 N)⟩⌝ ∗ pt c arg2 f2 ∗ pt c arg3 f3 ∗ pt c arg4 f4 ∗ pt c arg5 f5) := by
  rw [k0_part1_eq_skeleton]
  unfold k0_part1_skel
  iintro ⟨H2, H3, H4, H5⟩
  sl_exec
  sl_step
  isplitr
  · ipureintro
    rw [show arg2.view.readAt (Elt F) (Rect.unit (s := S1x64x512) ![0, 0, 0] S1x64x512.size inb_S1x64x512_S1x64x512_0_0_0).toLoadRect f2 = X from
        (readAt_part arg2 _ f2).trans (part_full _ _),
      show arg5.view.readAt (Elt F) (Rect.unit (s := S1x1x512) ![0, 0, 0] S1x1x512.size inb_S1x1x512_S1x1x512_0_0_0).toLoadRect f5 = XS from
        (readAt_part arg5 _ f5).trans (part_full _ _)]
    rfl
  isplitl [H2]; · iexact H2
  isplitl [H3]; · iexact H3
  isplitl [H4]; · iexact H4
  iexact H5

theorem part2_0 (v1 : FVec F S64x512 .f32) (v3 : FVec F S1x512 .f32) (v15 : FVec F S1x512 .f32) (v24 : IVec S1x512 32) (v34 : FVec F S256x512 .f32) :
    (iprop(pt c arg3 f3 ∗ pt c arg4 f4) : sProp 𝕄)
      ⊢ wp frame (wpE (defs₀ (F := F)) 𝒱₀ c none) Set.univ (k0_part2 i arg2 harg2 arg3 harg3 arg4 harg4 arg5 harg5 arg6 harg6 arg7 harg7 arg8 harg8 v1 v3 v15 v24 v34)
        fun r => iprop(⌜r = ⟨k0_pay12 v1 v3 v15 v24 v34 (e2 E) (n2 N), k0_pay13 v1 v3 v15 v34 (e2 E) (n2 N), k0_pay14 v1 (e3 E), k0_pay15 (n3 N)⟩⌝
          ∗ pt c arg3 f3 ∗ pt c arg4 f4) := by
  rw [k0_part2_eq_skeleton]
  unfold k0_part2_skel
  iintro ⟨H3, H4⟩
  sl_exec
  sl_step
  isplitr
  · ipureintro
    rfl
  isplitl [H3]; · iexact H3
  iexact H4

theorem part3_0 (v3 : FVec F S1x512 .f32) (v71 : IVec S1x512 32) (v72 : FVec F S1x512 .f32) (v74 : FVec F S256x512 .f32) (v76 : FVec F S256x1 .f32)
    (f6 : Bf (F := F) c arg6) (f7 : Bf (F := F) c arg7) :
    (iprop(pt c arg6 f6 ∗ pt c arg7 f7) : sProp 𝕄)
      ⊢ wp frame (wpE (defs₀ (F := F)) 𝒱₀ c none) Set.univ
        (k0_part3 i arg2 harg2 arg3 harg3 arg4 harg4 arg5 harg5 arg6 harg6 arg7 harg7 arg8 harg8 (BitVec.ofNat 32 (i 0).val) (BitVec.ofNat 32 (i 1).val) v3 v71 v72 v74 v76)
        fun _ => iprop((∃ f, ⌜arg6.view.read (Elt F) f = k0_pay18 v3 v71 v72 v74 v76⌝ ∗ pt c arg6 f)
          ∗ ∃ f, ⌜arg7.view.read (Elt F) f = k0_pay20 v3 v72 v74 v76 (if k0_cond2 i = 1#1 then k0_pay19 else arg7.view.read (Elt F) f7)⌝ ∗ pt c arg7 f) := by
  rw [k0_part3_eq_skeleton]
  unfold k0_part3_skel
  iintro ⟨H6, H7⟩
  by_cases hc : k0_cond2 i = 1#1
  · rw [if_pos hc]
    sl_exec (disch := sl_exact hc)
    sl_step
    isplitl [H6]
    · iexists _; isplitr; swap; (· iexact H6); ipureintro; exact read_full arg6 _ _ _ _
    iexists _; isplitr; swap; (· iexact H7); ipureintro
    refine (read_full arg7 _ _ _ _).trans ?_
    exact congrArg _ ((part_full _ _).trans (read_full arg7 inb_S1x1_S1x1_0_0 _ _ []))
  · rw [if_neg hc]
    sl_exec (disch := sl_exact hc)
    sl_step
    isplitl [H6]
    · iexists _; isplitr; swap; (· iexact H6); ipureintro; exact read_full arg6 _ _ _ _
    iexists _; isplitr; swap; (· iexact H7); ipureintro
    refine (read_full arg7 _ _ _ _).trans ?_
    exact congrArg _ (part_full _ _)

/-- The body at a point: the four operands kept, the indices stored, the total advanced (from zero at the first point), the table transposed. -/
theorem run0 (f6 : Bf (F := F) c arg6) (f7 : Bf (F := F) c arg7) (f8 : Bf (F := F) c arg8) :
    (iprop(pt c arg2 f2 ∗ pt c arg3 f3 ∗ pt c arg4 f4 ∗ pt c arg5 f5 ∗ pt c arg6 f6 ∗ pt c arg7 f7 ∗ pt c arg8 f8) : sProp 𝕄)
      ⊢ wp frame (wpE (defs₀ (F := F)) 𝒱₀ c none) Set.univ (cc0__dist_body_et i arg2 harg2 arg3 harg3 arg4 harg4 arg5 harg5 arg6 harg6 arg7 harg7 arg8 harg8)
        fun _ => iprop(pt c arg2 f2 ∗ pt c arg3 f3 ∗ pt c arg4 f4 ∗ pt c arg5 f5
          ∗ (∃ f, ⌜arg6.view.read (Elt F) f = dIdx X E N XS⌝ ∗ pt c arg6 f)
          ∗ (∃ f, ⌜arg7.view.read (Elt F) f = dLoss X E N XS (if k0_cond2 i = 1#1 then k0_pay19 else arg7.view.read (Elt F) f7)⌝ ∗ pt c arg7 f)
          ∗ ∃ f, ⌜arg8.view.read (Elt F) f = if k0_cond2 i = 1#1 then k0_pay1 E else arg8.view.read (Elt F) f8⌝ ∗ pt c arg8 f) := by
  rw [cc0__dist_body_et_eq_skeleton]
  unfold cc0__dist_body_et_skel
  iintro ⟨H2, H3, H4, H5, H6, H7, H8⟩
  rw [wp_bind]
  iapply (wp_wand_r Idealize.ShloMosaic.frame (wpE (defs₀ (F := F)) 𝒱₀ c none) Set.univ)
  isplitl [H2 H3 H4 H5]
  · iapply (part1_0 c i arg2 harg2 arg3 harg3 arg4 harg4 arg5 harg5 arg6 harg6 arg7 harg7 arg8 harg8 f2 f3 f4 f5)
    isplitl [H2]; · iexact H2
    isplitl [H3]; · iexact H3
    isplitl [H4]; · iexact H4
    iexact H5
  iintro %r ⟨%hr, H2, H3, H4, H5⟩
  subst hr
  dsimp only
  rw [wp_bind]
  iapply (wp_wand_r Idealize.ShloMosaic.frame (wpE (defs₀ (F := F)) 𝒱₀ c none) Set.univ)
  isplitl [H3 H4]
  · iapply (part2_0 c i arg2 harg2 arg3 harg3 arg4 harg4 arg5 harg5 arg6 harg6 arg7 harg7 arg8 harg8 f3 f4 _ _ _ _ _)
    isplitl [H3]; · iexact H3
    iexact H4
  iintro %r ⟨%hr, H3, H4⟩
  subst hr
  dsimp only
  rw [wp_bind]
  iapply (wp_wand_r Idealize.ShloMosaic.frame (wpE (defs₀ (F := F)) 𝒱₀ c none) Set.univ)
  isplitl [H6 H7]
  · iapply (part3_0 c i arg2 harg2 arg3 harg3 arg4 harg4 arg5 harg5 arg6 harg6 arg7 harg7 arg8 harg8 _ _ _ _ _ f6 f7)
    isplitl [H6]; · iexact H6
    iexact H7
  iintro %r ⟨H6, H7⟩
  by_cases hc : k0_cond2 i = 1#1
  · rw [if_pos hc]
    sl_exec (disch := sl_exact hc)
    sl_step
    isplitl [H2]; · iexact H2
    isplitl [H3]; · iexact H3
    isplitl [H4]; · iexact H4
    isplitl [H5]; · iexact H5
    isplitl [H6]; · iexact H6
    isplitl [H7]; · iexact H7
    iexists _; isplitr; swap; (· iexact H8); ipureintro
    exact ((read_full arg8 _ _ _ _).trans (congrArg k0_pay1 (part_full inb_S1024x64_S1024x64_0_0 _))).trans (if_pos hc).symm
  · rw [if_neg hc]
    sl_exec (disch := sl_exact hc)
    sl_step
    isplitl [H2]; · iexact H2
    isplitl [H3]; · iexact H3
    isplitl [H4]; · iexact H4
    isplitl [H5]; · iexact H5
    isplitl [H6]; · iexact H6
    isplitl [H7]; · iexact H7
    iexists _; isplitr; swap; (· iexact H8); ipureintro; exact (if_neg hc).symm

end Body0

section Body1

variable (c : Dev nD) (i : grid1.Coords)
  (arg2 : Memref sig .tc .vmem S1x64x512 .f32) (harg2 : arg2.IsWhole) (arg3 : Memref sig .tc .vmem S1024x64 .f32) (harg3 : arg3.IsWhole)
  (arg4 : Memref sig .tc .vmem S1024x1 .f32) (harg4 : arg4.IsWhole) (arg5 : Memref sig .tc .vmem S1x1x512 .f32) (harg5 : arg5.IsWhole)
  (arg6 : Memref sig .tc .vmem S1x1x512 .i32) (harg6 : arg6.IsWhole) (arg7 : Memref sig .tc .vmem S1x1 .f32) (harg7 : arg7.IsWhole)
  (f2 : Bf (F := F) c arg2) (f3 : Bf (F := F) c arg3) (f4 : Bf (F := F) c arg4) (f5 : Bf (F := F) c arg5)

local notation "X" => View.read (Elt F) (Memref.view arg2) f2
local notation "E" => View.read (Elt F) (Memref.view arg3) f3
local notation "N" => View.read (Elt F) (Memref.view arg4) f4
local notation "XS" => View.read (Elt F) (Memref.view arg5) f5

theorem part1_1 :
    (iprop(pt c arg2 f2 ∗ pt c arg3 f3 ∗ pt c arg4 f4 ∗ pt c arg5 f5) : sProp 𝕄)
      ⊢ wp frame (wpE (defs₀ (F := F)) 𝒱₀ c none) Set.univ (k1_part1 i arg2 harg2 arg3 harg3 arg4 harg4 arg5 harg5 arg6 harg6 arg7 harg7)
        fun r => iprop(⌜r = ⟨BitVec.ofNat 32 (i 0).val, BitVec.ofNat 32 (i 1).val, k0_pay2 X, k0_pay3 XS, k0_pay5 X XS (e0 E) (n0 N), k0_pay6 X XS (e0 E) (n0 N),
            k0_pay7 X XS (e1 E) (n1 N)⟩⌝ ∗ pt c arg2 f2 ∗ pt c arg3 f3 ∗ pt c arg4 f4 ∗ pt c arg5 f5) := by
  rw [k1_part1_eq_skeleton]
  unfold k1_part1_skel
  iintro ⟨H2, H3, H4, H5⟩
  sl_exec
  sl_step
  isplitr
  · ipureintro
    rw [show arg2.view.readAt (Elt F) (Rect.unit (s := S1x64x512) ![0, 0, 0] S1x64x512.size inb_S1x64x512_S1x64x512_0_0_0).toLoadRect f2 = X from
        (readAt_part arg2 _ f2).trans (part_full _ _),
      show arg5.view.readAt (Elt F) (Rect.unit (s := S1x1x512) ![0, 0, 0] S1x1x512.size inb_S1x1x512_S1x1x512_0_0_0).toLoadRect f5 = XS from
        (readAt_part arg5 _ f5).trans (part_full _ _)]
    rfl
  isplitl [H2]; · iexact H2
  isplitl [H3]; · iexact H3
  isplitl [H4]; · iexact H4
  iexact H5

theorem part2_1 (v1 : FVec F S64x512 .f32) (v3 : FVec F S1x512 .f32) (v15 : FVec F S1x512 .f32) (v24 : IVec S1x512 32) (v34 : FVec F S256x512 .f32) :
    (iprop(pt c arg3 f3 ∗ pt c arg4 f4) : sProp 𝕄)
      ⊢ wp frame (wpE (defs₀ (F := F)) 𝒱₀ c none) Set.univ (k1_part2 i arg2 harg2 arg3 harg3 arg4 harg4 arg5 harg5 arg6 harg6 arg7 harg7 v1 v3 v15 v24 v34)
        fun r => iprop(⌜r = ⟨k0_pay12 v1 v3 v15 v24 v34 (e2 E) (n2 N), k0_pay13 v1 v3 v15 v34 (e2 E) (n2 N), k0_pay14 v1 (e3 E), k0_pay15 (n3 N)⟩⌝
          ∗ pt c arg3 f3 ∗ pt c arg4 f4) := by
  rw [k1_part2_eq_skeleton]
  unfold k1_part2_skel
  iintro ⟨H3, H4⟩
  sl_exec
  sl_step
  isplitr
  · ipureintro
    rfl
  isplitl [H3]; · iexact H3
  iexact H4

/-- The body at a point: the four operands kept, the indices stored, the total advanced (from zero at the first point). -/
theorem run1 (f6 : Bf (F := F) c arg6) (f7 : Bf (F := F) c arg7) :
    (iprop(pt c arg2 f2 ∗ pt c arg3 f3 ∗ pt c arg4 f4 ∗ pt c arg5 f5 ∗ pt c arg6 f6 ∗ pt c arg7 f7) : sProp 𝕄)
      ⊢ wp frame (wpE (defs₀ (F := F)) 𝒱₀ c none) Set.univ (cc1__dist_body i arg2 harg2 arg3 harg3 arg4 harg4 arg5 harg5 arg6 harg6 arg7 harg7)
        fun _ => iprop(pt c arg2 f2 ∗ pt c arg3 f3 ∗ pt c arg4 f4 ∗ pt c arg5 f5
          ∗ (∃ f, ⌜arg6.view.read (Elt F) f = dIdx X E N XS⌝ ∗ pt c arg6 f)
          ∗ (∃ f, ⌜arg7.view.read (Elt F) f = dLoss X E N XS (if k0_cond2 i = 1#1 then k0_pay19 else arg7.view.read (Elt F) f7)⌝ ∗ pt c arg7 f)) := by
  rw [cc1__dist_body_eq_skeleton]
  unfold cc1__dist_body_skel
  iintro ⟨H2, H3, H4, H5, H6, H7⟩
  rw [wp_bind]
  iapply (wp_wand_r Idealize.ShloMosaic.frame (wpE (defs₀ (F := F)) 𝒱₀ c none) Set.univ)
  isplitl [H2 H3 H4 H5]
  · iapply (part1_1 c i arg2 harg2 arg3 harg3 arg4 harg4 arg5 harg5 arg6 harg6 arg7 harg7 f2 f3 f4 f5)
    isplitl [H2]; · iexact H2
    isplitl [H3]; · iexact H3
    isplitl [H4]; · iexact H4
    iexact H5
  iintro %r ⟨%hr, H2, H3, H4, H5⟩
  subst hr
  dsimp only
  rw [wp_bind]
  iapply (wp_wand_r Idealize.ShloMosaic.frame (wpE (defs₀ (F := F)) 𝒱₀ c none) Set.univ)
  isplitl [H3 H4]
  · iapply (part2_1 c i arg2 harg2 arg3 harg3 arg4 harg4 arg5 harg5 arg6 harg6 arg7 harg7 f3 f4 _ _ _ _ _)
    isplitl [H3]; · iexact H3
    iexact H4
  iintro %r ⟨%hr, H3, H4⟩
  subst hr
  dsimp only
  by_cases hc : k0_cond2 i = 1#1
  · rw [if_pos hc]
    sl_exec (disch := sl_exact hc)
    sl_step
    isplitl [H2]; · iexact H2
    isplitl [H3]; · iexact H3
    isplitl [H4]; · iexact H4
    isplitl [H5]; · iexact H5
    isplitl [H6]
    · iexists _; isplitr; swap; (· iexact H6); ipureintro; exact read_full arg6 _ _ _ _
    iexists _; isplitr; swap; (· iexact H7); ipureintro
    refine (read_full arg7 _ _ _ _).trans ?_
    exact congrArg (dLoss X E N XS) ((part_full _ _).trans (read_full arg7 inb_S1x1_S1x1_0_0 _ _ []))
  · rw [if_neg hc]
    sl_exec (disch := sl_exact hc)
    sl_step
    isplitl [H2]; · iexact H2
    isplitl [H3]; · iexact H3
    isplitl [H4]; · iexact H4
    isplitl [H5]; · iexact H5
    isplitl [H6]
    · iexists _; isplitr; swap; (· iexact H6); ipureintro; exact read_full arg6 _ _ _ _
    iexists _; isplitr; swap; (· iexact H7); ipureintro
    refine (read_full arg7 _ _ _ _).trans ?_
    exact congrArg (dLoss X E N XS) (part_full _ _)

end Body1

end Cert.Proof

end
-- ==== Proof.TcRegion.lean ====
/-
  The two TensorCore calls as pipelined regions of the whole program: each call's proof data over an arbitrary valuation of the
  host's buffers, its body obligation, what its result arrays hold at the end, and the region between two host states.
-/
module

public import proofs.«01_k».proof.Proof.TcBody
public import Idealize.ShloMosaic.Lib.Pipeline.RegionsLoop
public import Idealize.ShloMosaic.Lib.Pipeline.ValueKit
public import Idealize.ShloMosaic.Lib.Pipeline.TableIdle

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Window BodyObligation)

variable {F : FTy → Type} [FloatOps F]

local notation "𝕄" => MT nD τ sig (HIx 2) (Elt F) ℕ UU ℕ

/-- A valuation of the host's buffers. -/
abbrev Val : Type := (c : Dev nD) → (b : Ref sig .tc) → Buf (Elt F) ((c : Thread nD τ).loc b)

/-- Proof data of a pipeline another region runs: anything. -/
def junkDat {cfg : Pipeline.Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

/-- No table is prefetched. -/
abbrev adm0 : (p : Fin 2) → (pcfgs (F := F) p).Adm := fun p => (cfgs p).toPCfg_adm

/-- What the core owes to the launches still to come, with its recorded waits below them. -/
abbrev owesBelow (c : Dev nD) : sProp 𝕄 :=
  iprop(∃ W, ⌜(K (F := F)).WBelow (SparseCore.T c) W (8 * SparseCore.Cfg.Blocks.fst (Q := 2) (N := 2) 0)⌝ ∗ owes (SparseCore.T c) ((K (F := F)).Otc c 0) W)

/-- A whole memref's staged contents, opened and closed. -/
theorem pt_of_owns (c : Dev nD) {sp : Space} {S : Shape} {e : EltTy} (M : Memref sig .tc sp S e) (h : M.IsWhole) (X : S.Idx → Elt F e) :
    (owns (c : Thread nD τ) M fullShare X : sProp 𝕄) ⊢ iprop(∃ f, ⌜M.view.read (Elt F) f = X⌝ ∗ pt c M f) := by
  unfold owns; rw [h.set_eq_univ]
theorem owns_of_pt (c : Dev nD) {sp : Space} {S : Shape} {e : EltTy} (M : Memref sig .tc sp S e) (h : M.IsWhole) {X : S.Idx → Elt F e} {f : Bf (F := F) c M}
    (hf : M.view.read (Elt F) f = X) : (pt c M f : sProp 𝕄) ⊢ owns (c : Thread nD τ) M fullShare X := by
  unfold owns; rw [h.set_eq_univ]
  iintro H; iexists f; isplitr; swap; (· iexact H); ipureintro; exact hf

/-- Nothing is owed at the pipelines' own index. -/
theorem Otc_at_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this
  omega

/-! ## Call 0 -/

section Call0

variable (V : Val (F := F))

/-- The first grid point is where the body resets. -/
theorem cond0 : ∀ t : Fin cfg0.N, k0_cond2 (grid0.coords t) = 1#1 ↔ t.val = 0 :=
  (by decide +kernel : ∀ t : Fin grid0.N, k0_cond2 (grid0.coords t) = 1#1 ↔ t.val = 0)

abbrev xb0 (c : Dev nD) (t : Fin cfg0.N) : Vec F S1x64x512 .f32 := ((cfg0.win 0).blk t).view.read (Elt F) (V c main_v0)
abbrev eb0 (c : Dev nD) : Vec F S1024x64 .f32 := V c main_arg1
abbrev nb0 (c : Dev nD) : Vec F S1024x1 .f32 := V c main_v3
abbrev sb0 (c : Dev nD) (t : Fin cfg0.N) : Vec F S1x1x512 .f32 := ((cfg0.win 3).blk t).view.read (Elt F) (V c main_v8)

/-- The running total before point `n`. -/
def tot0 (c : Dev nD) : ℕ → Vec F S1x1 .f32
  | 0 => k0_pay19
  | n + 1 => if h : n < cfg0.N then dLoss (xb0 V c ⟨n, h⟩) (eb0 V c) (nb0 V c) (sb0 V c ⟨n, h⟩) (tot0 c n) else tot0 c n

theorem tot0_succ (c : Dev nD) (t : Fin cfg0.N) :
    tot0 V c (t.val + 1) = dLoss (xb0 V c t) (eb0 V c) (nb0 V c) (sb0 V c t) (tot0 V c t.val) := dif_pos t.isLt

/-- The scoped buffers the pipeline stages nothing in. -/
abbrev Φ0 (c : Dev nD) : sProp 𝕄 := Pipeline.scopedRest (Ix := HIx 2) (Name := ℕ) (U := UU) (Lvl := ℕ) (Val := Elt F) spec0 c

def dat0 (c : Dev nD) : Dat τ (Elt F) (HIx 2) ℕ UU ℕ cfg0 c where
  A w := V c (Pipeline.arrRef spec0 w)
  after w t := match w with
    | ⟨0, _⟩ => xb0 V c t
    | ⟨1, _⟩ => eb0 V c
    | ⟨2, _⟩ => nb0 V c
    | ⟨3, _⟩ => sb0 V c t
    | ⟨4, _⟩ => dIdx (xb0 V c t) (eb0 V c) (nb0 V c) (sb0 V c t)
    | ⟨5, _⟩ => tot0 V c (t.val + 1)
    | ⟨6, _⟩ => k0_pay1 (eb0 V c)
  Φ _ := Φ0 c
  q _ := fullShare
  owed _ := (K (F := F)).Otc c 0
  recorded _ := {p | (K (F := F)).lev (SparseCore.T c, p.1) p.2 ≤ 8 * SparseCore.Cfg.Blocks.fst (Q := 2) (N := 2) 0}

/-- The proof data of both pipelines, for the region of call 0. -/
def pdats0 : (p : Fin 2) → (c : Dev nD) → Dat τ (Elt F) (HIx 2) ℕ UU ℕ (Pipeline.pin (pcfgs (F := F)) adm0 p) c
  | ⟨0, _⟩ => fun c => dat0 V c
  | ⟨1, _⟩ => fun c => junkDat c

theorem ix0_1 : ∀ t : Fin cfg0.N, win0_1.index t = ![0, 0] := (by decide +kernel : ∀ t : Fin grid0.N, win0_1.index t = ![0, 0])
theorem ix0_2 : ∀ t : Fin cfg0.N, win0_2.index t = ![0, 0] := (by decide +kernel : ∀ t : Fin grid0.N, win0_2.index t = ![0, 0])

theorem blk0_1 (c : Dev nD) (t : Fin cfg0.N) : ((cfg0.win 1).blk t).view.read (Elt F) (V c main_arg1) = eb0 V c := by
  funext y
  blk_ext [ix0_1]
theorem blk0_2 (c : Dev nD) (t : Fin cfg0.N) : ((cfg0.win 2).blk t).view.read (Elt F) (V c main_v3) = nb0 V c := by
  funext y
  blk_ext [ix0_2]

theorem bef0_0 (c : Dev nD) (t : Fin cfg0.N) (d) : (dat0 V c).before 0 t d = xb0 V c t :=
  (dat0 V c).before_in_eq_fetched 0 rfl (fun _ => rfl) (fun _ _ _ => rfl) (fun _ => rfl) t d
theorem bef0_1 (c : Dev nD) (t : Fin cfg0.N) (d) : (dat0 V c).before 1 t d = eb0 V c :=
  ((dat0 V c).before_in_eq_fetched 1 rfl (fun _ => rfl) (fun _ _ _ => rfl) (fun t => (blk0_1 V c t).symm) t d).trans (blk0_1 V c t)
theorem bef0_2 (c : Dev nD) (t : Fin cfg0.N) (d) : (dat0 V c).before 2 t d = nb0 V c :=
  ((dat0 V c).before_in_eq_fetched 2 rfl (fun _ => rfl) (fun _ _ _ => rfl) (fun t => (blk0_2 V c t).symm) t d).trans (blk0_2 V c t)
theorem bef0_3 (c : Dev nD) (t : Fin cfg0.N) (d) : (dat0 V c).before 3 t d = sb0 V c t :=
  (dat0 V c).before_in_eq_fetched 3 rfl (fun _ => rfl) (fun _ _ _ => rfl) (fun _ => rfl) t d

theorem bef0_5 (c : Dev nD) (t : Fin cfg0.N) (d) :
    (if k0_cond2 (grid0.coords t) = 1#1 then k0_pay19 else (dat0 V c).before 5 t d) = tot0 V c t.val := by
  by_cases h : t.val = 0
  · rw [if_pos ((cond0 t).mpr h), h]; rfl
  · rw [if_neg fun h' => h ((cond0 t).mp h')]
    have hN : t.val < 16 := lt_of_lt_of_eq t.isLt N_0
    have hf : (cfg0.win 5).flush ⟨t.val - 1, Nat.lt_of_le_of_lt (Nat.sub_le _ _) t.isLt⟩ = false := by
      rw [← Bool.not_eq_true, flush0_5]; dsimp only; omega
    refine ((dat0 V c).before_out_kept 5 rfl t h hf (fun _ => rfl) (fun _ _ => rfl) d).trans ?_
    show tot0 V c (t.val - 1 + 1) = _
    rw [Nat.sub_add_cancel (Nat.pos_of_ne_zero h)]

theorem idle0_6_zero : ∀ t : Fin cfg0.N, t.val = 0 → idle0 6 (grid0.coords t) = false :=
  (by decide +kernel : ∀ t : Fin grid0.N, t.val = 0 → idle0 6 (grid0.coords t) = false)
theorem idle0_6_pos : ∀ t : Fin cfg0.N, t.val ≠ 0 → idle0 6 (grid0.coords t) = true :=
  (by decide +kernel : ∀ t : Fin grid0.N, t.val ≠ 0 → idle0 6 (grid0.coords t) = true)

/-- After the first point the table's buffer holds the transposed table, stored once. -/
theorem bef0_6 (c : Dev nD) (t : Fin cfg0.N) (h : t.val ≠ 0) (d) : (dat0 V c).before 6 t d = k0_pay1 (eb0 V c) := by
  rw [(dat0 V c).before_out_traj 6 rfl (fun _ _ => rfl) (fun _ _ _ _ => rfl) t.val t rfl d]
  rw [show cfg0.fresh 6 t.val = false from (by decide +kernel : ∀ t : Fin grid0.N, t.val ≠ 0 → cfg0.fresh 6 t.val = false) t h]
  rfl

set_option maxHeartbeats 400000 in
/-- The body obligation: the staging buffers handed to the body and taken back. -/
theorem obl0 (c : Dev nD) : BodyObligation (dat0 V c) (defs₀ (F := F)) 𝒱₀ none Set.univ := fun t => by
  rw [bigSep_W0, bigSep_W0]
  rw [show (dat0 V c).Φ t.castSucc = Φ0 c from rfl, show (dat0 V c).Φ t.succ = Φ0 c from rfl,
    show (dat0 V c).owesAt none t.succ = (dat0 V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  icases (pt_of_owns c (st0_0 t) (hstage0_0 ((cfg0.slots t 0).cast nbuf0_0)) _) $$ H0 with ⟨%f0, %hf0, H0⟩
  icases (pt_of_owns c (st0_1 t) (hstage0_1 ((cfg0.slots t 1).cast nbuf0_1)) _) $$ H1 with ⟨%f1, %hf1, H1⟩
  icases (pt_of_owns c (st0_2 t) (hstage0_2 ((cfg0.slots t 2).cast nbuf0_2)) _) $$ H2 with ⟨%f2, %hf2, H2⟩
  icases (pt_of_owns c (st0_3 t) (hstage0_3 ((cfg0.slots t 3).cast nbuf0_3)) _) $$ H3 with ⟨%f3, %hf3, H3⟩
  icases (pt_of_owns c (st0_4 t) (hstage0_4 ((cfg0.slots t 4).cast nbuf0_4)) _) $$ H4 with ⟨%f4, %hf4, H4⟩
  icases (pt_of_owns c (st0_5 t) (hstage0_5 ((cfg0.slots t 5).cast nbuf0_5)) _) $$ H5 with ⟨%f5, %hf5, H5⟩
  icases (pt_of_owns c (st0_6 t) (hstage0_6 ((cfg0.slots t 6).cast nbuf0_6)) _) $$ H6 with ⟨%f6, %hf6, H6⟩
  rw [bef0_0] at hf0
  rw [bef0_1] at hf1
  rw [bef0_2] at hf2
  rw [bef0_3] at hf3
  iapply (wp_wand_r Idealize.ShloMosaic.frame (wpE (defs₀ (F := F)) 𝒱₀ c none) Set.univ)
  isplitl [H0 H1 H2 H3 H4 H5 H6]
  · iapply (run0 c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) (st0_6 t) (hstage0_6 ((cfg0.slots t 6).cast nbuf0_6)) f0 f1 f2 f3 f4 f5 f6)
    isplitl [H0]; · iexact H0
    isplitl [H1]; · iexact H1
    isplitl [H2]; · iexact H2
    isplitl [H3]; · iexact H3
    isplitl [H4]; · iexact H4
    isplitl [H5]; · iexact H5
    iexact H6
  iintro %r ⟨H0, H1, H2, H3, ⟨%g4, %hg4, H4⟩, ⟨%g5, %hg5, H5⟩, ⟨%g6, %hg6, H6⟩⟩
  rw [hf0, hf1, hf2, hf3] at hg4
  rw [hf0, hf1, hf2, hf3, hf5, bef0_5, ← tot0_succ] at hg5
  rw [hf1, hf6] at hg6
  isplitl [HΦ]; · iexact HΦ
  isplitl [Howes]; · iexact Howes
  isplitl [H0]; · iapply (owns_of_pt c (st0_0 t) (hstage0_0 ((cfg0.slots t 0).cast nbuf0_0)) hf0); iexact H0
  isplitl [H1]; · iapply (owns_of_pt c (st0_1 t) (hstage0_1 ((cfg0.slots t 1).cast nbuf0_1)) hf1); iexact H1
  isplitl [H2]; · iapply (owns_of_pt c (st0_2 t) (hstage0_2 ((cfg0.slots t 2).cast nbuf0_2)) hf2); iexact H2
  isplitl [H3]; · iapply (owns_of_pt c (st0_3 t) (hstage0_3 ((cfg0.slots t 3).cast nbuf0_3)) hf3); iexact H3
  isplitl [H4]; · iapply (owns_of_pt c (st0_4 t) (hstage0_4 ((cfg0.slots t 4).cast nbuf0_4)) hg4); iexact H4
  isplitl [H5]; · iapply (owns_of_pt c (st0_5 t) (hstage0_5 ((cfg0.slots t 5).cast nbuf0_5)) hg5); iexact H5
  by_cases h : t.val = 0
  · rw [if_pos ((cond0 t).mpr h)] at hg6
    rw [show cfg0.idle 6 (cfg0.grid.coords t) = false from idle0_6_zero t h]
    iapply (owns_of_pt c (st0_6 t) (hstage0_6 ((cfg0.slots t 6).cast nbuf0_6)) hg6); iexact H6
  · rw [if_neg fun h' => h ((cond0 t).mp h')] at hg6
    rw [show cfg0.idle 6 (cfg0.grid.coords t) = true from idle0_6_pos t h]
    cases hfl : (cfg0.win 6).flush t
    · dsimp only
      iexists d6
      iapply (owns_of_pt c (st0_6 t) (hstage0_6 ((cfg0.slots t 6).cast nbuf0_6)) hg6); iexact H6
    · dsimp only
      iapply (owns_of_pt c (st0_6 t) (hstage0_6 ((cfg0.slots t 6).cast nbuf0_6)) (hg6.trans (bef0_6 V c t h d6))); iexact H6

/-- What the call's result arrays hold after it. -/
def out0_idx (c : Dev nD) : Vec F S8x1x1024 .i32 := (dat0 V c).arrAt 4 cfg0.N
def out0_loss (c : Dev nD) : Vec F S1x1 .f32 := (dat0 V c).arrAt 5 cfg0.N
def out0_et (c : Dev nD) : Vec F S64x1024 .f32 := (dat0 V c).arrAt 6 cfg0.N

variable (Vp : Val (F := F))

set_option backward.isDefEq.respectTransparency.types false in
/-- The region of call 0: entered with the host's buffers at `V`, left with them at `Vp`. -/
def reg0 (R : Dev nD → sProp 𝕄) (hV4 : ∀ c, Vp c main_v9_0 = out0_idx V c) (hV5 : ∀ c, Vp c main_v9_1 = out0_loss V c) (hV6 : ∀ c, Vp c main_v9_2 = out0_et V c)
    (hne : ∀ c (b : Ref sig .tc), b ≠ main_v9_0 → b ≠ main_v9_1 → b ≠ main_v9_2 → Vp c b = V c b) :
    Pipeline.RegionSeg (pcfgs (F := F)) adm0 (pdats0 V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obl0 V c).loose
  hwaits c := Pipeline.cellsWaits_intro _ _ _ _ c fun w s t => (K (F := F)).mayWait_none _ (Otc_at_none c 0)
  pre c := iprop(unscopedBufs c (V c) ∗ R c ∗ owesBelow (F := F) c)
  post c := iprop(unscopedBufs c (Vp c) ∗ R c ∗ owesBelow (F := F) c)
  X _ := BI.emp
  Y _ := BI.emp
  Z c := iprop(Pipeline.unscopedRest (Ix := HIx 2) (Name := ℕ) (U := UU) (Lvl := ℕ) spec0 c (V c) ∗ R c)
  hentry c := by
    rw [Pipeline.ownSems0_none]
    have hsplit := Pipeline.arrays_of_unscopedBufs (p := 0) (pcfgs (F := F)) adm0 (pdats0 V) launch0.win launch0.arr_whole c
      ((pdats0 V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats0 V 0 c).Φ 0 = Φ0 c from rfl]
    iintro ⟨-, -, Hr⟩; iexact Hr
  hout c := by
    rw [Pipeline.ownSems0_none, show (pdats0 V 0 c).Φ (Fin.last _) = Φ0 c from rfl]
    iintro Hr
    isplitr; · iempintro
    isplitr; · iempintro
    iexact Hr
  hexit c := by
    have hjoin := Pipeline.unscopedBufs_of_arrays (p := 0) (pcfgs (F := F)) adm0 (Ix := HIx 2) (Name := ℕ) (U := UU) (Lvl := ℕ) launch0.win launch0.arr_whole c
      (pdats0 V) ((pdats0 V 0 c).share_full fun _ => rfl) (V c) (Vp c) ((pdats0 V 0 c).arrAt · cfg0.N)
      (fun w => by
        fin_cases w
        · exact ((pdats0 V 0 c).arrAt_in 0 rfl _).trans (hne c main_v0 (by decide) (by decide) (by decide)).symm
        · exact ((pdats0 V 0 c).arrAt_in 1 rfl _).trans (hne c main_arg1 (by decide) (by decide) (by decide)).symm
        · exact ((pdats0 V 0 c).arrAt_in 2 rfl _).trans (hne c main_v3 (by decide) (by decide) (by decide)).symm
        · exact ((pdats0 V 0 c).arrAt_in 3 rfl _).trans (hne c main_v8 (by decide) (by decide) (by decide)).symm
        · exact (hV4 c).symm
        · exact (hV5 c).symm
        · exact (hV6 c).symm)
      (fun b hb => hne c b (fun h => hb (h ▸ Finset.mem_image.mpr ⟨4, Finset.mem_univ _, rfl⟩))
        (fun h => hb (h ▸ Finset.mem_image.mpr ⟨5, Finset.mem_univ _, rfl⟩))
        (fun h => hb (h ▸ Finset.mem_image.mpr ⟨6, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; swap; (· iexact HO); ipureintro
    intro p hp
    rcases hW hp with h | ⟨w, s, rfl⟩
    · exact h
    · exact Nat.zero_le _

end Call0

/-! ## Call 1 -/

section Call1

variable (V : Val (F := F))

/-- The first grid point is where the body resets. -/
theorem cond1 : ∀ t : Fin cfg1.N, k0_cond2 (grid1.coords t) = 1#1 ↔ t.val = 0 :=
  (by decide +kernel : ∀ t : Fin grid1.N, k0_cond2 (grid1.coords t) = 1#1 ↔ t.val = 0)

abbrev xb1 (c : Dev nD) (t : Fin cfg1.N) : Vec F S1x64x512 .f32 := ((cfg1.win 0).blk t).view.read (Elt F) (V c main_v0)
abbrev eb1 (c : Dev nD) : Vec F S1024x64 .f32 := V c main_arg1
abbrev nb1 (c : Dev nD) : Vec F S1024x1 .f32 := V c main_v3
abbrev sb1 (c : Dev nD) (t : Fin cfg1.N) : Vec F S1x1x512 .f32 := ((cfg1.win 3).blk t).view.read (Elt F) (V c main_v8)

/-- The running total before point `n`. -/
def tot1 (c : Dev nD) : ℕ → Vec F S1x1 .f32
  | 0 => k0_pay19
  | n + 1 => if h : n < cfg1.N then dLoss (xb1 V c ⟨n, h⟩) (eb1 V c) (nb1 V c) (sb1 V c ⟨n, h⟩) (tot1 c n) else tot1 c n

theorem tot1_succ (c : Dev nD) (t : Fin cfg1.N) :
    tot1 V c (t.val + 1) = dLoss (xb1 V c t) (eb1 V c) (nb1 V c) (sb1 V c t) (tot1 V c t.val) := dif_pos t.isLt

/-- The scoped buffers the pipeline stages nothing in. -/
abbrev Φ1 (c : Dev nD) : sProp 𝕄 := Pipeline.scopedRest (Ix := HIx 2) (Name := ℕ) (U := UU) (Lvl := ℕ) (Val := Elt F) spec1 c

def dat1 (c : Dev nD) : Dat τ (Elt F) (HIx 2) ℕ UU ℕ cfg1 c where
  A w := V c (Pipeline.arrRef spec1 w)
  after w t := match w with
    | ⟨0, _⟩ => xb1 V c t
    | ⟨1, _⟩ => eb1 V c
    | ⟨2, _⟩ => nb1 V c
    | ⟨3, _⟩ => sb1 V c t
    | ⟨4, _⟩ => dIdx (xb1 V c t) (eb1 V c) (nb1 V c) (sb1 V c t)
    | ⟨5, _⟩ => tot1 V c (t.val + 1)
  Φ _ := Φ1 c
  q _ := fullShare
  owed _ := (K (F := F)).Otc c 0
  recorded _ := {p | (K (F := F)).lev (SparseCore.T c, p.1) p.2 ≤ 8 * SparseCore.Cfg.Blocks.fst (Q := 2) (N := 2) 0}

/-- The proof data of both pipelines, for the region of call 1. -/
def pdats1 : (p : Fin 2) → (c : Dev nD) → Dat τ (Elt F) (HIx 2) ℕ UU ℕ (Pipeline.pin (pcfgs (F := F)) adm0 p) c
  | ⟨0, _⟩ => fun c => junkDat c
  | ⟨1, _⟩ => fun c => dat1 V c

theorem ix1_1 : ∀ t : Fin cfg1.N, win1_1.index t = ![0, 0] := (by decide +kernel : ∀ t : Fin grid1.N, win1_1.index t = ![0, 0])
theorem ix1_2 : ∀ t : Fin cfg1.N, win1_2.index t = ![0, 0] := (by decide +kernel : ∀ t : Fin grid1.N, win1_2.index t = ![0, 0])

theorem blk1_1 (c : Dev nD) (t : Fin cfg1.N) : ((cfg1.win 1).blk t).view.read (Elt F) (V c main_arg1) = eb1 V c := by
  funext y
  blk_ext [ix1_1]
theorem blk1_2 (c : Dev nD) (t : Fin cfg1.N) : ((cfg1.win 2).blk t).view.read (Elt F) (V c main_v3) = nb1 V c := by
  funext y
  blk_ext [ix1_2]

theorem bef1_0 (c : Dev nD) (t : Fin cfg1.N) (d) : (dat1 V c).before 0 t d = xb1 V c t :=
  (dat1 V c).before_in_eq_fetched 0 rfl (fun _ => rfl) (fun _ _ _ => rfl) (fun _ => rfl) t d
theorem bef1_1 (c : Dev nD) (t : Fin cfg1.N) (d) : (dat1 V c).before 1 t d = eb1 V c :=
  ((dat1 V c).before_in_eq_fetched 1 rfl (fun _ => rfl) (fun _ _ _ => rfl) (fun t => (blk1_1 V c t).symm) t d).trans (blk1_1 V c t)
theorem bef1_2 (c : Dev nD) (t : Fin cfg1.N) (d) : (dat1 V c).before 2 t d = nb1 V c :=
  ((dat1 V c).before_in_eq_fetched 2 rfl (fun _ => rfl) (fun _ _ _ => rfl) (fun t => (blk1_2 V c t).symm) t d).trans (blk1_2 V c t)
theorem bef1_3 (c : Dev nD) (t : Fin cfg1.N) (d) : (dat1 V c).before 3 t d = sb1 V c t :=
  (dat1 V c).before_in_eq_fetched 3 rfl (fun _ => rfl) (fun _ _ _ => rfl) (fun _ => rfl) t d

theorem bef1_5 (c : Dev nD) (t : Fin cfg1.N) (d) :
    (if k0_cond2 (grid1.coords t) = 1#1 then k0_pay19 else (dat1 V c).before 5 t d) = tot1 V c t.val := by
  by_cases h : t.val = 0
  · rw [if_pos ((cond1 t).mpr h), h]; rfl
  · rw [if_neg fun h' => h ((cond1 t).mp h')]
    have hN : t.val < 16 := lt_of_lt_of_eq t.isLt N_1
    have hf : (cfg1.win 5).flush ⟨t.val - 1, Nat.lt_of_le_of_lt (Nat.sub_le _ _) t.isLt⟩ = false := by
      rw [← Bool.not_eq_true, flush1_5]; dsimp only; omega
    refine ((dat1 V c).before_out_kept 5 rfl t h hf (fun _ => rfl) (fun _ _ => rfl) d).trans ?_
    show tot1 V c (t.val - 1 + 1) = _
    rw [Nat.sub_add_cancel (Nat.pos_of_ne_zero h)]

set_option maxHeartbeats 400000 in
/-- The body obligation: the staging buffers handed to the body and taken back. -/
theorem obl1 (c : Dev nD) : BodyObligation (dat1 V c) (defs₀ (F := F)) 𝒱₀ none Set.univ := fun t => by
  rw [bigSep_W1, bigSep_W1]
  rw [show (dat1 V c).Φ t.castSucc = Φ1 c from rfl, show (dat1 V c).Φ t.succ = Φ1 c from rfl,
    show (dat1 V c).owesAt none t.succ = (dat1 V c).owesAt none t.castSucc from rfl]
  iintro ⟨HΦ, Howes, ⟨%d0, H0⟩, ⟨%d1, H1⟩, ⟨%d2, H2⟩, ⟨%d3, H3⟩, ⟨%d4, H4⟩, ⟨%d5, H5⟩⟩
  icases (pt_of_owns c (st1_0 t) (hstage1_0 ((cfg1.slots t 0).cast nbuf1_0)) _) $$ H0 with ⟨%f0, %hf0, H0⟩
  icases (pt_of_owns c (st1_1 t) (hstage1_1 ((cfg1.slots t 1).cast nbuf1_1)) _) $$ H1 with ⟨%f1, %hf1, H1⟩
  icases (pt_of_owns c (st1_2 t) (hstage1_2 ((cfg1.slots t 2).cast nbuf1_2)) _) $$ H2 with ⟨%f2, %hf2, H2⟩
  icases (pt_of_owns c (st1_3 t) (hstage1_3 ((cfg1.slots t 3).cast nbuf1_3)) _) $$ H3 with ⟨%f3, %hf3, H3⟩
  icases (pt_of_owns c (st1_4 t) (hstage1_4 ((cfg1.slots t 4).cast nbuf1_4)) _) $$ H4 with ⟨%f4, %hf4, H4⟩
  icases (pt_of_owns c (st1_5 t) (hstage1_5 ((cfg1.slots t 5).cast nbuf1_5)) _) $$ H5 with ⟨%f5, %hf5, H5⟩
  rw [bef1_0] at hf0
  rw [bef1_1] at hf1
  rw [bef1_2] at hf2
  rw [bef1_3] at hf3
  iapply (wp_wand_r Idealize.ShloMosaic.frame (wpE (defs₀ (F := F)) 𝒱₀ c none) Set.univ)
  isplitl [H0 H1 H2 H3 H4 H5]
  · iapply (run1 c (grid1.coords t) (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3)) (st1_4 t) (hstage1_4 ((cfg1.slots t 4).cast nbuf1_4))
      (st1_5 t) (hstage1_5 ((cfg1.slots t 5).cast nbuf1_5)) f0 f1 f2 f3 f4 f5)
    isplitl [H0]; · iexact H0
    isplitl [H1]; · iexact H1
    isplitl [H2]; · iexact H2
    isplitl [H3]; · iexact H3
    isplitl [H4]; · iexact H4
    iexact H5
  iintro %r ⟨H0, H1, H2, H3, ⟨%g4, %hg4, H4⟩, ⟨%g5, %hg5, H5⟩⟩
  rw [hf0, hf1, hf2, hf3] at hg4
  rw [hf0, hf1, hf2, hf3, hf5, bef1_5, ← tot1_succ] at hg5
  isplitl [HΦ]; · iexact HΦ
  isplitl [Howes]; · iexact Howes
  isplitl [H0]; · iapply (owns_of_pt c (st1_0 t) (hstage1_0 ((cfg1.slots t 0).cast nbuf1_0)) hf0); iexact H0
  isplitl [H1]; · iapply (owns_of_pt c (st1_1 t) (hstage1_1 ((cfg1.slots t 1).cast nbuf1_1)) hf1); iexact H1
  isplitl [H2]; · iapply (owns_of_pt c (st1_2 t) (hstage1_2 ((cfg1.slots t 2).cast nbuf1_2)) hf2); iexact H2
  isplitl [H3]; · iapply (owns_of_pt c (st1_3 t) (hstage1_3 ((cfg1.slots t 3).cast nbuf1_3)) hf3); iexact H3
  isplitl [H4]; · iapply (owns_of_pt c (st1_4 t) (hstage1_4 ((cfg1.slots t 4).cast nbuf1_4)) hg4); iexact H4
  iapply (owns_of_pt c (st1_5 t) (hstage1_5 ((cfg1.slots t 5).cast nbuf1_5)) hg5); iexact H5

/-- What the call's result arrays hold after it. -/
def out1_idx (c : Dev nD) : Vec F S8x1x1024 .i32 := (dat1 V c).arrAt 4 cfg1.N
def out1_loss (c : Dev nD) : Vec F S1x1 .f32 := (dat1 V c).arrAt 5 cfg1.N

variable (Vp : Val (F := F))

set_option backward.isDefEq.respectTransparency.types false in
/-- The region of call 1: entered with the host's buffers at `V`, left with them at `Vp`. -/
def reg1 (R : Dev nD → sProp 𝕄) (hV4 : ∀ c, Vp c main_v10_0 = out1_idx V c) (hV5 : ∀ c, Vp c main_v10_1 = out1_loss V c)
    (hne : ∀ c (b : Ref sig .tc), b ≠ main_v10_0 → b ≠ main_v10_1 → Vp c b = V c b) :
    Pipeline.RegionSeg (pcfgs (F := F)) adm0 (pdats1 V) none defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (obl1 V c).loose
  hwaits c := Pipeline.cellsWaits_intro _ _ _ _ c fun w s t => (K (F := F)).mayWait_none _ (Otc_at_none c 0)
  pre c := iprop(unscopedBufs c (V c) ∗ R c ∗ owesBelow (F := F) c)
  post c := iprop(unscopedBufs c (Vp c) ∗ R c ∗ owesBelow (F := F) c)
  X _ := BI.emp
  Y _ := BI.emp
  Z c := iprop(Pipeline.unscopedRest (Ix := HIx 2) (Name := ℕ) (U := UU) (Lvl := ℕ) spec1 c (V c) ∗ R c)
  hentry c := by
    rw [Pipeline.ownSems0_none]
    have hsplit := Pipeline.arrays_of_unscopedBufs (p := 1) (pcfgs (F := F)) adm0 (pdats1 V) launch1.win launch1.arr_whole c
      ((pdats1 V 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats1 V 1 c).Φ 0 = Φ1 c from rfl]
    iintro ⟨-, -, Hr⟩; iexact Hr
  hout c := by
    rw [Pipeline.ownSems0_none, show (pdats1 V 1 c).Φ (Fin.last _) = Φ1 c from rfl]
    iintro Hr
    isplitr; · iempintro
    isplitr; · iempintro
    iexact Hr
  hexit c := by
    have hjoin := Pipeline.unscopedBufs_of_arrays (p := 1) (pcfgs (F := F)) adm0 (Ix := HIx 2) (Name := ℕ) (U := UU) (Lvl := ℕ) launch1.win launch1.arr_whole c
      (pdats1 V) ((pdats1 V 1 c).share_full fun _ => rfl) (V c) (Vp c) ((pdats1 V 1 c).arrAt · cfg1.N)
      (fun w => by
        fin_cases w
        · exact ((pdats1 V 1 c).arrAt_in 0 rfl _).trans (hne c main_v0 (by decide) (by decide)).symm
        · exact ((pdats1 V 1 c).arrAt_in 1 rfl _).trans (hne c main_arg1 (by decide) (by decide)).symm
        · exact ((pdats1 V 1 c).arrAt_in 2 rfl _).trans (hne c main_v3 (by decide) (by decide)).symm
        · exact ((pdats1 V 1 c).arrAt_in 3 rfl _).trans (hne c main_v8 (by decide) (by decide)).symm
        · exact (hV4 c).symm
        · exact (hV5 c).symm)
      (fun b hb => hne c b (fun h => hb (h ▸ Finset.mem_image.mpr ⟨4, Finset.mem_univ _, rfl⟩))
        (fun h => hb (h ▸ Finset.mem_image.mpr ⟨5, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; swap; (· iexact HO); ipureintro
    intro p hp
    rcases hW hp with h | ⟨w, s, rfl⟩
    · exact h
    · exact Nat.zero_le _

end Call1

end Cert.Proof

end
-- ==== Proof.Main.lean ====
/-
  @main's run: eleven host operations, the two TensorCore regions, the two SparseCore calls, seven host operations, each taking the
  valuation of the host's buffers to the next; the launch; and what the arguments and the results hold at the end.
-/
module

public import proofs.«01_k».proof.Proof.ScCall
public import proofs.«01_k».proof.Proof.TcRegion

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.ShloMosaic.StableHlo (held held_sub_split held_congr after)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The host's operations and the chain of valuations -/

/-- The operations before the kernels. -/
def ops1 : List (HloOp τ sig (Elt F)) :=
  [StableHlo.reshape main_arg0 main_v0 (rfl : (.f32 : EltTy) = .f32) shapeCasts_S16x64x32x32_S16x64x1024,
   StableHlo.binary main_arg1 main_arg1 main_v1 (mulf : (⟨S1024x64, .f32⟩ : BufTy).Contents (Elt F) → (⟨S1024x64, .f32⟩ : BufTy).Contents (Elt F) → (⟨S1024x64, .f32⟩ : BufTy).Contents (Elt F)),
   StableHlo.nullary main_cst (constant S_ .f32 0x00000000#32),
   StableHlo.binary main_v1 main_cst main_v2 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
   StableHlo.reshape main_v2 main_v3 (rfl : (.f32 : EltTy) = .f32) shapeCasts_S1024_S1024x1,
   StableHlo.unary main_arg0 main_v4 ((transpose S16x32x32x64 [0, 2, 3, 1] · transposes_S16x64x32x32_S16x32x32x64_0_2_3_1) : (⟨S16x64x32x32, .f32⟩ : BufTy).Contents (Elt F) → (⟨S16x32x32x64, .f32⟩ : BufTy).Contents (Elt F)),
   StableHlo.reshape main_v4 main_v5 (rfl : (.f32 : EltTy) = .f32) shapeCasts_S16x32x32x64_S16384x64,
   StableHlo.binary main_v5 main_v5 main_v6 (mulf : (⟨S16384x64, .f32⟩ : BufTy).Contents (Elt F) → (⟨S16384x64, .f32⟩ : BufTy).Contents (Elt F) → (⟨S16384x64, .f32⟩ : BufTy).Contents (Elt F)),
   StableHlo.nullary main_cst_0 (constant S_ .f32 0x00000000#32),
   StableHlo.binary main_v6 main_cst_0 main_v7 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
   StableHlo.reshape main_v7 main_v8 (rfl : (.f32 : EltTy) = .f32) shapeCasts_S16384_S16x1x1024]
/-- The operations after them. -/
def ops2 : List (HloOp τ sig (Elt F)) :=
  [StableHlo.reshape main_v9_1 main_v13 (rfl : (.f32 : EltTy) = .f32) shapeCasts_S1x1_S_,
   StableHlo.reshape main_v10_1 main_v14 (rfl : (.f32 : EltTy) = .f32) shapeCasts_S1x1_S_,
   StableHlo.binary main_v13 main_v14 main_v15 (addf : (⟨S_, .f32⟩ : BufTy).Contents (Elt F) → (⟨S_, .f32⟩ : BufTy).Contents (Elt F) → (⟨S_, .f32⟩ : BufTy).Contents (Elt F)),
   StableHlo.nullary main_cst_1 (constant S_ .f32 0x35A00000#32),
   StableHlo.binary main_cst_1 main_v15 main_v16 (mulf : (⟨S_, .f32⟩ : BufTy).Contents (Elt F) → (⟨S_, .f32⟩ : BufTy).Contents (Elt F) → (⟨S_, .f32⟩ : BufTy).Contents (Elt F)),
   StableHlo.binary main_v11 main_v12 main_v17 ((fun a b => concatenate S16x64x1024 0 [⟨S8x64x1024, a⟩, ⟨S8x64x1024, b⟩] concatenates_S8x64x1024_S8x64x1024_S16x64x1024_d0) : (⟨S8x64x1024, .f32⟩ : BufTy).Contents (Elt F) → (⟨S8x64x1024, .f32⟩ : BufTy).Contents (Elt F) → (⟨S16x64x1024, .f32⟩ : BufTy).Contents (Elt F)),
   StableHlo.reshape main_v17 main_v18 (rfl : (.f32 : EltTy) = .f32) shapeCasts_S16x64x1024_S16x64x32x32]

abbrev HV : Type := Dev nD → Valuation τ sig (Elt F)

/-- A valuation read at the host's references. -/
abbrev toV (W : HV (F := F)) : Val (F := F) := fun c b => W c (Proc.devRef .tc b)

/-- One buffer replaced. -/
abbrev put (W : Valuation τ sig (Elt F)) (b : Ref sig .tc) (x : (Proc.devRef (τ := τ) .tc b).ty.Contents (Elt F)) : Valuation τ sig (Elt F) :=
  Function.update W (Proc.devRef .tc b) x

variable (m : (ℓ : Loc nD τ sig) → Buf (Elt F) ℓ) (ρ : Dev nD → PrngReg)

def W0 : HV (F := F) := fun d r => m (d, r)
def W1 : HV (F := F) := fun d => after ops1 (W0 m d)
def W2 : HV (F := F) := fun d =>
  put (put (put (W1 m d) main_v9_0 (out0_idx (toV (W1 m)) d)) main_v9_1 (out0_loss (toV (W1 m)) d)) main_v9_2 (out0_et (toV (W1 m)) d)
def W3 : HV (F := F) := fun d =>
  put (put (W2 m d) main_v10_0 (out1_idx (toV (W2 m)) d)) main_v10_1 (out1_loss (toV (W2 m)) d)
def W4 : HV (F := F) := fun d => put (W3 m d) main_v11 (gath (out0_et (toV (W1 m)) d) (out0_idx (toV (W1 m)) d))
def W5 : HV (F := F) := fun d => put (W4 m d) main_v12 (gath (out0_et (toV (W1 m)) d) (out1_idx (toV (W2 m)) d))
def W6 : HV (F := F) := fun d => after ops2 (W5 m d)

/-- Both regions' indices are rows of the table. -/
structure InRange : Prop where
  hA : ∀ d x, (out0_idx (toV (W1 m)) d x : BitVec 32).toNat < 1024
  hB : ∀ d x, (out1_idx (toV (W2 m)) d x : BitVec 32).toNat < 1024

variable (hr : InRange m)

/-- What the SparseCore calls find. -/
def cts : Cts F where
  E := out0_et (toV (W1 m))
  IA := out0_idx (toV (W1 m))
  IB := out1_idx (toV (W2 m))
  oA d := W3 m d (Proc.devRef .tc main_v11)
  oB d := W4 m d (Proc.devRef .tc main_v12)
  hA := hr.hA
  hB := hr.hB

/-! ## The host's buffers, held -/

/-- The TensorCore's own buffers that no region scopes. -/
def hostRefs : Finset (DevRef τ sig) := (StableHlo.tcRefs τ sig).filter fun b => ¬ b.isScoped

theorem hostBufs (c : Dev nD) (W : HV (F := F)) : (unscopedBufs c (toV W c) : sProp 𝕄) = held (c : Thread nD τ) hostRefs (W c) := by
  unfold unscopedBufs StableHlo.held hostRefs StableHlo.tcRefs
  rw [Finset.filter_map, bigSep_map]
  rfl

omit [FloatOps F] in
theorem host_sub (op : HloOp τ sig (Elt F)) (h : op.bufs ⊆ StableHlo.tcRefs τ sig) : op.bufs ⊆ hostRefs := fun b hb =>
  Finset.mem_filter.mpr ⟨h hb, by rw [op.no_scoped b hb]; exact Bool.false_ne_true⟩

theorem ops1_sub : ∀ op ∈ ops1 (F := F), op.bufs ⊆ hostRefs :=
  List.forall_iff_forall_mem.mp (by unfold ops1; simp only [List.Forall]; (repeat' apply And.intro) <;> exact host_sub _ (by simp))
theorem ops2_sub : ∀ op ∈ ops2 (F := F), op.bufs ⊆ hostRefs :=
  List.forall_iff_forall_mem.mp (by unfold ops2; simp only [List.Forall]; (repeat' apply And.intro) <;> exact host_sub _ (by simp))
theorem ops1_fresh : ∀ op ∈ ops1 (F := F), op.fresh = ∅ :=
  List.forall_iff_forall_mem.mp (by unfold ops1; simp only [List.Forall]; (repeat' apply And.intro) <;> rfl)
theorem ops2_fresh : ∀ op ∈ ops2 (F := F), op.fresh = ∅ :=
  List.forall_iff_forall_mem.mp (by unfold ops2; simp only [List.Forall]; (repeat' apply And.intro) <;> rfl)

/-- @main as its two lines of host operations around the four calls. -/
theorem main_eq (d : Dev nD) : main (F := F) d = (StableHlo.seq ops1 >>= fun _ => do
    Prog.lift (.customCall (SparseCore.inner (Pipeline.entry 0)) ())
    Prog.lift (.customCall (SparseCore.inner (Pipeline.entry 1)) ())
    sc.run d 0
    sc.run d 1
    StableHlo.seq ops2 >>= fun _ => pure ⟨⟩) := by
  rw [StableHlo.seq_bind_seqK, StableHlo.seq_bind_seqK]
  rfl

/-! ## The valuations at the buffers the calls read -/

omit [FloatOps F] in
theorem put_self (W : Valuation τ sig (Elt F)) (b : Ref sig .tc) (x) : put W b x (Proc.devRef .tc b) = x := Function.update_self ..
omit [FloatOps F] in
theorem put_ne (W : Valuation τ sig (Elt F)) (b b' : Ref sig .tc) (x) (h : b' ≠ b) : put W b x (Proc.devRef .tc b') = W (Proc.devRef .tc b') :=
  Function.update_of_ne (fun e => h (Proc.devRef_injective _ e)) ..

theorem W2_v9_0 (d : Dev nD) : W2 m d (Proc.devRef .tc main_v9_0) = out0_idx (toV (W1 m)) d := by
  unfold W2; rw [put_ne _ _ _ _ (by decide), put_ne _ _ _ _ (by decide), put_self]
theorem W2_v9_1 (d : Dev nD) : W2 m d (Proc.devRef .tc main_v9_1) = out0_loss (toV (W1 m)) d := by
  unfold W2; rw [put_ne _ _ _ _ (by decide), put_self]
theorem W2_v9_2 (d : Dev nD) : W2 m d (Proc.devRef .tc main_v9_2) = out0_et (toV (W1 m)) d := by
  unfold W2; rw [put_self]
theorem W2_ne (d : Dev nD) (b : Ref sig .tc) (h0 : b ≠ main_v9_0) (h1 : b ≠ main_v9_1) (h2 : b ≠ main_v9_2) :
    W2 m d (Proc.devRef .tc b) = W1 m d (Proc.devRef .tc b) := by
  unfold W2; rw [put_ne _ _ _ _ h2, put_ne _ _ _ _ h1, put_ne _ _ _ _ h0]
theorem W3_v10_0 (d : Dev nD) : W3 m d (Proc.devRef .tc main_v10_0) = out1_idx (toV (W2 m)) d := by
  unfold W3; rw [put_ne _ _ _ _ (by decide), put_self]
theorem W3_v10_1 (d : Dev nD) : W3 m d (Proc.devRef .tc main_v10_1) = out1_loss (toV (W2 m)) d := by
  unfold W3; rw [put_self]
theorem W3_ne (d : Dev nD) (b : Ref sig .tc) (h0 : b ≠ main_v10_0) (h1 : b ≠ main_v10_1) :
    W3 m d (Proc.devRef .tc b) = W2 m d (Proc.devRef .tc b) := by
  unfold W3; rw [put_ne _ _ _ _ h1, put_ne _ _ _ _ h0]

/-- Three host buffers out of all of them, and back with the third replaced. -/
theorem take3 (d : Dev nD) (a b o : Ref sig .tc) (hab : a ≠ b) (hao : a ≠ o) (hbo : b ≠ o)
    (ha : a.isScoped = false) (hb : b.isScoped = false) (ho : o.isScoped = false) (W : Valuation τ sig (Elt F)) :
    (held (SparseCore.T d) hostRefs W : sProp 𝕄) = iprop((((SparseCore.T d).loc a ↦{fullShare} W (Proc.devRef .tc a))
      ∗ ((SparseCore.T d).loc b ↦{fullShare} W (Proc.devRef .tc b)) ∗ ((SparseCore.T d).loc o ↦{fullShare} W (Proc.devRef .tc o)))
      ∗ held (SparseCore.T d) (hostRefs \ {Proc.devRef .tc a, Proc.devRef .tc b, Proc.devRef .tc o}) W) := by
  have hm : ∀ r : Ref sig .tc, r.isScoped = false → (Proc.devRef .tc r : DevRef τ sig) ∈ hostRefs := fun r h =>
    Finset.mem_filter.mpr ⟨Finset.mem_map.mpr ⟨r, Finset.mem_univ _, rfl⟩, by
      rw [show (Proc.devRef .tc r : DevRef τ sig).isScoped = r.isScoped from rfl, h]; exact Bool.false_ne_true⟩
  have hne : ∀ r r' : Ref sig .tc, r ≠ r' → (Proc.devRef .tc r : DevRef τ sig) ≠ Proc.devRef .tc r' := fun r r' h e => h (Proc.devRef_injective _ e)
  rw [held_sub_split (SparseCore.T d) (T := {Proc.devRef .tc a, Proc.devRef .tc b, Proc.devRef .tc o}) (S := hostRefs) (by
    intro x hx
    simp only [Finset.mem_insert, Finset.mem_singleton] at hx
    rcases hx with rfl | rfl | rfl
    exacts [hm _ ha, hm _ hb, hm _ ho])]
  conv_lhs => lhs; unfold StableHlo.held
  rw [SparseCore.bigSep_insert' (by simp [hne _ _ hab, hne _ _ hao]), SparseCore.bigSep_insert' (by simp [hne _ _ hbo]), bigSep_singleton]

theorem keep3 (d : Dev nD) (a b o : Ref sig .tc) (W : Valuation τ sig (Elt F)) (x) :
    (held (SparseCore.T d) (hostRefs \ {Proc.devRef .tc a, Proc.devRef .tc b, Proc.devRef .tc o}) W : sProp 𝕄)
      = held (SparseCore.T d) (hostRefs \ {Proc.devRef .tc a, Proc.devRef .tc b, Proc.devRef .tc o}) (put W o x) :=
  held_congr _ fun r hr => (Function.update_of_ne (fun e => (Finset.mem_sdiff.mp hr).2 (by simp [e])) ..).symm

/-! ## The launch's ghost state -/

theorem phinj : Function.Injective (Pipeline.cellOf (nD := nD) (τ := τ) (Pipeline.pin (pcfgs (F := F)) adm0)) := cellOf_inj

/-- What each device's two regions are dealt. -/
def Gh (d : Dev nD) : sProp 𝕄 :=
  iprop((bigSep Finset.univ fun p => Pipeline.cellsGhost (Pipeline.pin (pcfgs (F := F)) adm0) EP p d)
    ∗ bigSep Finset.univ fun p => Pipeline.toksInit (Pipeline.pin (pcfgs (F := F)) adm0) EP p d)

def u₀ : UU := (initOf (K (F := F)).hsCells (K (F := F)).hsToks,
  (initOf (Pipeline.cells (Pipeline.pin (pcfgs (F := F)) adm0) phinj) (Pipeline.launchToks (Pipeline.pin (pcfgs (F := F)) adm0) phinj), 1))

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 2 => (P (cts m hr)).x q thr) := by
  unfold u₀
  iintro Hu
  ihave H := (ownU_pair (initOf (K (F := F)).hsCells (K (F := F)).hsToks) (_ : UP × Counters)) $$ Hu
  icases H with ⟨HH, HR⟩
  ihave H := (own_pair_emb (embR : Emb (UP × Counters) 𝕄) _ (1 : Counters)) $$ HR
  icases H with ⟨HP, -⟩
  ihave HP' := (Entails.of_eq (show (BI.own (((Emb.inl : Emb UP (UP × Counters)).trans (embR : Emb (UP × Counters) 𝕄)) _) : sProp 𝕄)
    = BI.own (EP (initOf (Pipeline.cells (Pipeline.pin (pcfgs (F := F)) adm0) phinj) (Pipeline.launchToks (Pipeline.pin (pcfgs (F := F)) adm0) phinj))) from rfl)) $$ HP
  ihave H := (Pipeline.fund_ghost (Pipeline.pin (pcfgs (F := F)) adm0) EP phinj) $$ HP'
  imod H with ⟨Hc, Ht⟩
  imodintro
  isplitl [HH]; · iexact HH
  isplitl [Hc Ht]
  · unfold Gh
    rw [bigSep_sep']
    isplitl [Hc] <;> iassumption
  rw [show (bigSep Finset.univ fun thr : Thread nD τ => bigSep Finset.univ fun q : Fin 2 => (P (cts m hr)).x q thr) = bigSep Finset.univ fun _ => iprop(emp) from
    bigSep_congr fun _ _ => emps _, emps]
  iempintro

/-- The two regions' shares of it apart. -/
theorem Gh_split (d : Dev nD) : (Gh (F := F) d : sProp 𝕄) ⊢ iprop(
    (Pipeline.cellsGhost (Pipeline.pin (pcfgs (F := F)) adm0) EP 0 d ∗ Pipeline.toksInit (Pipeline.pin (pcfgs (F := F)) adm0) EP 0 d)
    ∗ Pipeline.cellsGhost (Pipeline.pin (pcfgs (F := F)) adm0) EP 1 d ∗ Pipeline.toksInit (Pipeline.pin (pcfgs (F := F)) adm0) EP 1 d) := by
  unfold Gh
  rw [show (Finset.univ : Finset (Fin 2)) = {0, 1} by decide, SparseCore.bigSep_insert' (by decide), SparseCore.bigSep_insert' (by decide), bigSep_singleton, bigSep_singleton]
  iintro ⟨⟨Ha, Hb⟩, Hc, Hd⟩
  isplitl [Ha Hc]
  · isplitl [Ha] <;> iassumption
  isplitl [Hb] <;> iassumption

/-! ## @main on the TensorCore -/

def theReg0 := reg0 (toV (W1 m)) (toV (W2 m)) (fun _ => iprop(emp)) (W2_v9_0 m) (W2_v9_1 m) (W2_v9_2 m) (W2_ne m)
def theReg1 := reg1 (toV (W2 m)) (toV (W3 m)) (fun _ => iprop(emp)) (W3_v10_0 m) (W3_v10_1 m) (W3_ne m)

/-- The host's buffers at the end. -/
abbrev FIN (d : Dev nD) : sProp 𝕄 := held (SparseCore.T d) hostRefs (W6 m d)

/-- A TensorCore region of @main, at the whole program's defs. -/
theorem wp_region {p : Fin 2} {pd} (κ : GSem nD τ sig → ℕ) (d : Dev nD)
    (R : Pipeline.RegionSeg (pcfgs (F := F)) adm0 pd none defs₀ 𝒱₀ (K (F := F)).L (K (F := F)).lev p) (Q : PUnit → sProp 𝕄) :
    iprop((K (F := F)).ctx EH (P (cts m hr)) κ ∗ boundary (SparseCore.T d) ∗ R.pre d
        ∗ (Pipeline.cellsGhost (Pipeline.pin (pcfgs (F := F)) adm0) EP p d ∗ Pipeline.toksInit (Pipeline.pin (pcfgs (F := F)) adm0) EP p d)
        ∗ (iprop(boundary (SparseCore.T d) ∗ R.post d) -∗ Q ⟨⟩))
      ⊢ wp frame (wpE ((K (F := F)).defs (D (F := F))) 𝒱 (SparseCore.T d) none) Set.univ
          (Prog.lift (.customCall (SparseCore.inner (Pipeline.entry p)) ())) Q := by
  iintro ⟨#Hctx, Hb, Hpre, ⟨Hg, Ht⟩, Hk⟩
  iapply ((K (F := F)).wp_liftProg (D := D (F := F)) (𝒱 := 𝒱) (SparseCore.T d) Set.univ none (Prog.lift (.customCall (Pipeline.entry p) ())) Q)
  iapply (Pipeline.RegionSeg.wp (pcfgs (F := F)) adm0 pd none phinj EP defs₀ 𝒱₀ (K (F := F)).L (K (F := F)).lev R d none (fun _ h => nomatch h) (fun x => .ret x) Q)
  ihave Hlev := (SparseCore.Cfg.ctx_levAts κ) $$ Hctx
  isplitl [Hk]
  · iintro H
    rw [wp_ret]; imodintro
    iapply Hk; iexact H
  isplitl [Hb]; · iexact Hb
  isplitl [Hpre]; · iexact Hpre
  isplitr; · iexact Hlev
  isplitl [Hg] <;> iassumption

/-- The TensorCore's state before the SparseCore calls, but what it owes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))
theorem tcSt_zero (d : Dev nD) : (K (F := F)).tcSt EH d 0 = (iprop(owesBelow (F := F) d ∗ tcRest (F := F) d) : sProp 𝕄) := rfl

/-- The SparseCore call A, over the host's buffers. -/
theorem wp_gatherA (κ : GSem nD τ sig → ℕ) (d : Dev nD) (Q : PUnit → sProp 𝕄) :
    iprop((K (F := F)).ctx EH (P (cts m hr)) κ ∗ (K (F := F)).tcSt EH d 0 ∗ held (SparseCore.T d) hostRefs (W3 m d)
        ∗ (iprop((K (F := F)).tcSt EH d 1 ∗ held (SparseCore.T d) hostRefs (W4 m d)) -∗ Q ⟨⟩))
      ⊢ wp frame (wpE ((K (F := F)).defs (D (F := F))) 𝒱 (SparseCore.T d) none) Set.univ (sc.run d 0) Q := by
  have hE : W3 m d (Proc.devRef .tc main_v9_2) = (cts m hr).E d := (W3_ne m d _ (by decide) (by decide)).trans (W2_v9_2 m d)
  have hI : W3 m d (Proc.devRef .tc main_v9_0) = (cts m hr).IA d := (W3_ne m d _ (by decide) (by decide)).trans (W2_v9_0 m d)
  have hO : W3 m d (Proc.devRef .tc main_v11) = (cts m hr).oA d := rfl
  have hT := take3 (F := F) d main_v9_2 main_v9_0 main_v11 (by decide) (by decide) (by decide) rfl rfl rfl
  have hW : W4 m d = put (W3 m d) main_v11 (gath ((cts m hr).E d) ((cts m hr).IA d)) := rfl
  iintro ⟨#Hctx, Hst, Hh, Hk⟩
  ihave Hh' := (Entails.of_eq (hT (W3 m d))) $$ Hh
  icases Hh' with ⟨H3, Hrest⟩
  rw [hE, hI, hO]
  ihave Hgo := (go_joinA (cts m hr) d) $$ H3
  icases Hgo with ⟨Hsh, Hgo⟩
  iapply ((K (F := F)).wp_run (D (F := F)) 𝒱 (EH := EH) (P := P (cts m hr)) κ d 0) $$ [Hst Hgo Hsh Hrest Hk]
  isplitr; · iexact Hctx
  isplitl [Hst]; · iexact Hst
  isplitl [Hgo]; · iexact Hgo
  iintro ⟨Hst, Hdn⟩
  ihave Htd := (td_joinA (cts m hr) d) $$ [Hsh Hdn]
  · isplitl [Hsh] <;> iassumption
  iapply Hk
  isplitl [Hst]; · iexact Hst
  rw [hT (W4 m d), hW, ← keep3, put_self, put_ne _ _ _ _ (by decide), put_ne _ _ _ _ (by decide), hE, hI]
  isplitl [Htd]; · iexact Htd
  iexact Hrest

/-- The SparseCore call B, over the host's buffers. -/
theorem wp_gatherB (κ : GSem nD τ sig → ℕ) (d : Dev nD) (Q : PUnit → sProp 𝕄) :
    iprop((K (F := F)).ctx EH (P (cts m hr)) κ ∗ (K (F := F)).tcSt EH d 1 ∗ held (SparseCore.T d) hostRefs (W4 m d)
        ∗ (iprop((K (F := F)).tcSt EH d 2 ∗ held (SparseCore.T d) hostRefs (W5 m d)) -∗ Q ⟨⟩))
      ⊢ wp frame (wpE ((K (F := F)).defs (D (F := F))) 𝒱 (SparseCore.T d) none) Set.univ (sc.run d 1) Q := by
  have hE : W4 m d (Proc.devRef .tc main_v9_2) = (cts m hr).E d := (put_ne _ _ _ _ (by decide)).trans ((W3_ne m d _ (by decide) (by decide)).trans (W2_v9_2 m d))
  have hI : W4 m d (Proc.devRef .tc main_v10_0) = (cts m hr).IB d := (put_ne _ _ _ _ (by decide)).trans (W3_v10_0 m d)
  have hO : W4 m d (Proc.devRef .tc main_v12) = (cts m hr).oB d := rfl
  have hT := take3 (F := F) d main_v9_2 main_v10_0 main_v12 (by decide) (by decide) (by decide) rfl rfl rfl
  have hW : W5 m d = put (W4 m d) main_v12 (gath ((cts m hr).E d) ((cts m hr).IB d)) := rfl
  iintro ⟨#Hctx, Hst, Hh, Hk⟩
  ihave Hh' := (Entails.of_eq (hT (W4 m d))) $$ Hh
  icases Hh' with ⟨H3, Hrest⟩
  rw [hE, hI, hO]
  ihave Hgo := (go_joinB (cts m hr) d) $$ H3
  icases Hgo with ⟨Hsh, Hgo⟩
  iapply ((K (F := F)).wp_run (D (F := F)) 𝒱 (EH := EH) (P := P (cts m hr)) κ d 1) $$ [Hst Hgo Hsh Hrest Hk]
  isplitr; · iexact Hctx
  isplitl [Hst]; · iexact Hst
  isplitl [Hgo]; · iexact Hgo
  iintro ⟨Hst, Hdn⟩
  ihave Htd := (td_joinB (cts m hr) d) $$ [Hsh Hdn]
  · isplitl [Hsh] <;> iassumption
  iapply Hk
  isplitl [Hst]; · iexact Hst
  rw [hT (W5 m d), hW, ← keep3, put_self, put_ne _ _ _ _ (by decide), put_ne _ _ _ _ (by decide), hE, hI]
  isplitl [Htd]; · iexact Htd
  iexact Hrest

/-- @main on device `d`'s TensorCore. -/
theorem hmain (κ : GSem nD τ sig → ℕ) (d : Dev nD) :
    iprop((K (F := F)).ctx EH (P (cts m hr)) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) hostRefs (W0 m d) from hostBufs d (W0 m), main_eq]
  iintro ⟨#Hctx, Hst, ⟨Hb, Hh, Hts, -⟩, HG⟩
  ihave HG' := (Gh_split d) $$ HG
  icases HG' with ⟨HG0, HG1⟩
  -- the host operations before
  iapply (StableHlo.wp_seq 𝒱 none Set.univ d hostRefs _ ops1 ops1_sub ops1_fresh (W0 m d)) $$ [Hb Hh]
  · isplitl [Hb] <;> iassumption
  iintro ⟨Hb, Hh⟩
  -- the first region
  ihave Hst' := (Entails.of_eq (tcSt_zero d)) $$ Hst
  icases Hst' with ⟨HO, Hst⟩
  rw [wp_bind]
  iapply (wp_region m hr κ d (theReg0 m) _)
  isplitr; · iexact Hctx
  isplitl [Hb]; · iexact Hb
  isplitl [Hh HO]
  · iapply (Entails.of_eq (show iprop(unscopedBufs d (toV (W1 m) d) ∗ emp ∗ owesBelow (F := F) d) = (theReg0 m).pre d from rfl))
    isplitl [Hh]; · rw [hostBufs]; iexact Hh
    isplitr; · iempintro
    iexact HO
  isplitl [HG0]; · iexact HG0
  iintro ⟨Hb, Hpost⟩
  ihave Hpost' := (Entails.of_eq (show (theReg0 m).post d = iprop(unscopedBufs d (toV (W2 m) d) ∗ emp ∗ owesBelow (F := F) d) from rfl)) $$ Hpost
  icases Hpost' with ⟨Hh, -, HO⟩
  -- the second
  rw [wp_bind]
  iapply (wp_region m hr κ d (theReg1 m) _)
  isplitr; · iexact Hctx
  isplitl [Hb]; · iexact Hb
  isplitl [Hh HO]
  · iapply (Entails.of_eq (show iprop(unscopedBufs d (toV (W2 m) d) ∗ emp ∗ owesBelow (F := F) d) = (theReg1 m).pre d from rfl))
    isplitl [Hh]; · iexact Hh
    isplitr; · iempintro
    iexact HO
  isplitl [HG1]; · iexact HG1
  iintro ⟨Hb, Hpost⟩
  ihave Hpost' := (Entails.of_eq (show (theReg1 m).post d = iprop(unscopedBufs d (toV (W3 m) d) ∗ emp ∗ owesBelow (F := F) d) from rfl)) $$ Hpost
  icases Hpost' with ⟨Hh, -, HO⟩
  -- the two gathers
  ihave Hh' := (Entails.of_eq (hostBufs d (W3 m))) $$ Hh
  ihave Hst := (Entails.of_eq (tcSt_zero d).symm) $$ [HO Hst]
  · isplitl [HO] <;> iassumption
  rw [wp_bind]
  iapply (wp_gatherA m hr κ d _)
  isplitr; · iexact Hctx
  isplitl [Hst]; · iexact Hst
  isplitl [Hh']; · iexact Hh'
  iintro ⟨Hst, Hh⟩
  rw [wp_bind]
  iapply (wp_gatherB m hr κ d _)
  isplitr; · iexact Hctx
  isplitl [Hst]; · iexact Hst
  isplitl [Hh]; · iexact Hh
  iintro ⟨Hst, Hh⟩
  -- the host operations after
  iapply (StableHlo.wp_seq 𝒱 none Set.univ d hostRefs _ ops2 ops2_sub ops2_fresh (W5 m d)) $$ [Hb Hh]
  · isplitl [Hb] <;> iassumption
  iintro ⟨Hb, Hh⟩
  rw [wp_pure]; imodintro
  isplitl [Hst]; · iexact Hst
  isplitl [Hh]; · iexact Hh
  isplitl [Hb] <;> iassumption

/-! ## The run -/

/-- A host buffer's contents in a state whose host buffers are held at a valuation. -/
theorem held_at (d : Dev nD) (W : Valuation τ sig (Elt F)) (b : Ref sig .tc) (h : b.isScoped = false) (s' : Phys nD τ sig (Elt F)) :
    iprop(held (SparseCore.T d) hostRefs W ∗ SI s') ⊢ (⌜s'.mem.mem ((SparseCore.T d).loc b) = W (Proc.devRef .tc b)⌝ : sProp 𝕄) := by
  have hm : (Proc.devRef .tc b : DevRef τ sig) ∈ hostRefs :=
    Finset.mem_filter.mpr ⟨Finset.mem_map.mpr ⟨b, Finset.mem_univ _, rfl⟩, by
      rw [show (Proc.devRef .tc b : DevRef τ sig).isScoped = b.isScoped from rfl, h]; exact Bool.false_ne_true⟩
  iintro ⟨Hh, HSI⟩
  ihave Hb := (show (held (SparseCore.T d) hostRefs W : sProp 𝕄) ⊢ ((SparseCore.T d).loc b ↦{fullShare} W (Proc.devRef .tc b)) from by
    unfold StableHlo.held; exact bigSep_elim (Φ := fun r : DevRef τ sig => (d, r) ↦{fullShare} W r) hm) $$ Hh
  ihave H := (SI_pointsTo_agree (st := s') (ℓ := (SparseCore.T d).loc b) (I := Finset.univ) (q := fullShare) (f := W (Proc.devRef .tc b))) $$ [HSI Hb]
  · isplitl [HSI] <;> iassumption
  icases H with %h1
  ipureintro
  exact funext fun i => h1 i (Finset.mem_univ i)

/-- What the run leaves: the arguments and the results at the last valuation. -/
def fq (d : Dev nD) (s' : Phys nD τ sig (Elt F)) : Prop :=
  (s'.mem.mem ((SparseCore.T d).loc main_arg0) = W6 m d (Proc.devRef .tc main_arg0) ∧ s'.mem.mem ((SparseCore.T d).loc main_arg1) = W6 m d (Proc.devRef .tc main_arg1))
    ∧ s'.mem.mem ((SparseCore.T d).loc main_v16) = W6 m d (Proc.devRef .tc main_v16) ∧ s'.mem.mem ((SparseCore.T d).loc main_v18) = W6 m d (Proc.devRef .tc main_v18)

theorem hfin (d : Dev nD) (s' : Phys nD τ sig (Elt F)) : iprop(FIN m d ∗ SI s') ⊢ (⌜fq m d s'⌝ : sProp 𝕄) := by
  have hand : ∀ {R : sProp 𝕄} {a b : Prop}, (R ⊢ ⌜a⌝) → (R ⊢ ⌜b⌝) → R ⊢ ⌜a ∧ b⌝ := fun {R a b} ha hb => by
    iintro H
    ihave H' := (persistent_entails_right ha) $$ H
    icases H' with ⟨%h1, H⟩
    ihave %h2 := hb $$ H
    ipureintro; exact ⟨h1, h2⟩
  exact hand (hand (held_at d _ _ rfl s') (held_at d _ _ rfl s')) (hand (held_at d _ _ rfl s') (held_at d _ _ rfl s'))

include hr in
/-- The program's run: every counter back at zero, the arguments and the results at the last valuation. -/
theorem run_main [∀ e, Nonempty (Elt F e)] : θ_run (Cert.KernelIdeal.defs (F := F)) (Cert.KernelIdeal.threads (F := F)) ⟨m, fun _ => 0, ρ⟩
    (fun r => (∀ d : Dev nD, ((r.2.mem ((SparseCore.T d).loc main_arg0) = W6 m d (Proc.devRef .tc main_arg0) ∧ r.2.mem ((SparseCore.T d).loc main_arg1) = W6 m d (Proc.devRef .tc main_arg1))
      ∧ r.2.mem ((SparseCore.T d).loc main_v16) = W6 m d (Proc.devRef .tc main_v16) ∧ r.2.mem ((SparseCore.T d).loc main_v18) = W6 m d (Proc.devRef .tc main_v18)))
      ∧ r.2.sem = fun _ => 0) :=
  SparseCore.Cfg.θ_run_sc_quiescent (K := K (F := F)) (D := D (F := F)) (𝒱 := 𝒱) (EH := EH) (P := P (cts m hr)) (A := ∅) kfacts v₀
    (fun q hq => match q with | 0 => nomatch hq | 1 => nomatch hq)
    (fun q _ => tileObl (cts m hr) kfacts q)
    (fun q _ => SparseCore.Cfg.VecSplit.of_plain (vecSplit (cts m hr) q))
    m ρ main Gh (FIN m) (u₀ (F := F)) (sep_elim_left.trans (hu₀ m hr)) (hmain m ρ hr) (fq m) (hfin m) _ (fun _ h hz => ⟨h, hz⟩)

end Cert.Proof

end
-- ==== Proof.TcOut.lean ====
/-
  The two TensorCore calls' result arrays at coordinates: every index is what its own grid point stores at its own place, the total
  is what the last point leaves, the table is the transposed table; and the input blocks at coordinates.
-/
module

public import proofs.«01_k».proof.Proof.TcRegion

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.ShloMosaic.Pipeline (Dat Window)

variable {F : FTy → Type} [FloatOps F]

variable (V : Val (F := F))

/-- The grid point of image `b` (of the half's eight) and pixel `p`. -/
def ptOf (b : Fin 8) (p : Fin 1024) : Fin 16 := ⟨2 * b.val + p.val / 512, by omega⟩

/-! ## Call 0 -/

theorem at0_4 : ∀ t : Fin cfg0.N, win0_4.index t = ![t.val / 2, 0, t.val % 2] :=
  (by decide +kernel : ∀ t : Fin grid0.N, win0_4.index t = ![t.val / 2, 0, t.val % 2])
theorem at0_0 : ∀ t : Fin cfg0.N, win0_0.index t = ![t.val / 2, 0, t.val % 2] :=
  (by decide +kernel : ∀ t : Fin grid0.N, win0_0.index t = ![t.val / 2, 0, t.val % 2])
theorem at0_3 : ∀ t : Fin cfg0.N, win0_3.index t = ![t.val / 2, 0, t.val % 2] :=
  (by decide +kernel : ∀ t : Fin grid0.N, win0_3.index t = ![t.val / 2, 0, t.val % 2])

theorem out0_idx_at (c : Dev nD) (x : S8x1x1024.Idx) :
    out0_idx V c x = dIdx (xb0 V c (ptOf (x 0) (x 2))) (eb0 V c) (nb0 V c) (sb0 V c (ptOf (x 0) (x 2)))
      (ix3 (0 : Fin 1) (0 : Fin 1) (⟨(x 2).val % 512, Nat.mod_lt _ (by decide)⟩ : Fin 512)) := by
  refine congrFun ((dat0 V c).arrAt_eq_of_covers 4 (fun x : S8x1x1024.Idx => dIdx (xb0 V c (ptOf (x 0) (x 2))) (eb0 V c) (nb0 V c) (sb0 V c (ptOf (x 0) (x 2)))
      (ix3 (0 : Fin 1) (0 : Fin 1) (⟨(x 2).val % 512, Nat.mod_lt _ (by decide)⟩ : Fin 512))) (by decide +kernel) fun t hf y => ?_) x
  have hy2 : (y 2).val < 512 := (y 2).isLt
  have hy1 : (y 1).val < 1 := (y 1).isLt
  have hy0 : (y 0).val < 1 := (y 0).isLt
  have e0 : ((((cfg0.win 4).blk t).view.emb y) 0 : ℕ) = t.val / 2 := by blk_simp [at0_4] <;> simp <;> omega
  have e2 : ((((cfg0.win 4).blk t).view.emb y) 2 : ℕ) = t.val % 2 * 512 + (y 2).val := by blk_simp [at0_4] <;> simp
  have ht : ptOf ((((cfg0.win 4).blk t).view.emb y) 0) ((((cfg0.win 4).blk t).view.emb y) 2) = t := by
    apply Fin.ext
    show 2 * ((((cfg0.win 4).blk t).view.emb y) 0 : ℕ) + ((((cfg0.win 4).blk t).view.emb y) 2 : ℕ) / 512 = t.val
    rw [e0, e2]; omega
  have hy : (ix3 (0 : Fin 1) (0 : Fin 1) (⟨((((cfg0.win 4).blk t).view.emb y) 2).val % 512, Nat.mod_lt _ (by decide)⟩ : Fin 512)) = y := by
    funext a; apply Fin.ext
    fin_cases a
    · show 0 = (y 0).val; omega
    · show 0 = (y 1).val; omega
    · show ((((cfg0.win 4).blk t).view.emb y) 2 : ℕ) % 512 = (y 2).val
      rw [e2]; omega
  show dIdx (xb0 V c t) (eb0 V c) (nb0 V c) (sb0 V c t) y = _
  rw [ht, hy]

theorem out0_loss_eq (c : Dev nD) : out0_loss V c = tot0 V c 16 :=
  (dat0 V c).arrAt_eq_of_after_last 5 t0_15 (by decide +kernel) _ fun j => by
    show tot0 V c 16 _ = tot0 V c 16 _
    congr 1

theorem out0_et_eq (c : Dev nD) : out0_et V c = k0_pay1 (eb0 V c) :=
  (dat0 V c).arrAt_eq_of_after_last 6 t0_15 (by decide +kernel) _ fun j => by
    show k0_pay1 (eb0 V c) _ = k0_pay1 (eb0 V c) _
    congr 1

theorem xb0_at (c : Dev nD) (b : Fin 8) (p : Fin 1024) (k : Fin 64) :
    xb0 V c (ptOf b p) (ix3 (0 : Fin 1) k (⟨p.val % 512, Nat.mod_lt _ (by decide)⟩ : Fin 512))
      = (V c main_v0 : Vec F S16x64x1024 .f32) (ix3 (⟨b.val, by omega⟩ : Fin 16) k p) := by
  have key : ∀ t : Fin cfg0.N, t.val = 2 * b.val + p.val / 512 →
      xb0 V c t (ix3 (0 : Fin 1) k (⟨p.val % 512, Nat.mod_lt _ (by decide)⟩ : Fin 512))
        = (V c main_v0 : Vec F S16x64x1024 .f32) (ix3 (⟨b.val, by omega⟩ : Fin 16) k p) := by
    intro t ht
    blk_ext [xb0, at0_0]
  exact key _ rfl

theorem sb0_at (c : Dev nD) (b : Fin 8) (p : Fin 1024) :
    sb0 V c (ptOf b p) (ix3 (0 : Fin 1) (0 : Fin 1) (⟨p.val % 512, Nat.mod_lt _ (by decide)⟩ : Fin 512))
      = (V c main_v8 : Vec F S16x1x1024 .f32) (ix3 (⟨b.val, by omega⟩ : Fin 16) (0 : Fin 1) p) := by
  have key : ∀ t : Fin cfg0.N, t.val = 2 * b.val + p.val / 512 →
      sb0 V c t (ix3 (0 : Fin 1) (0 : Fin 1) (⟨p.val % 512, Nat.mod_lt _ (by decide)⟩ : Fin 512))
        = (V c main_v8 : Vec F S16x1x1024 .f32) (ix3 (⟨b.val, by omega⟩ : Fin 16) (0 : Fin 1) p) := by
    intro t ht
    blk_ext [sb0, at0_3]
  exact key _ rfl

/-! ## Call 1 -/

theorem at1_4 : ∀ t : Fin cfg1.N, win1_4.index t = ![t.val / 2, 0, t.val % 2] :=
  (by decide +kernel : ∀ t : Fin grid1.N, win1_4.index t = ![t.val / 2, 0, t.val % 2])
theorem at1_0 : ∀ t : Fin cfg1.N, win1_0.index t = ![t.val / 2 + 8, 0, t.val % 2] :=
  (by decide +kernel : ∀ t : Fin grid1.N, win1_0.index t = ![t.val / 2 + 8, 0, t.val % 2])
theorem at1_3 : ∀ t : Fin cfg1.N, win1_3.index t = ![t.val / 2 + 8, 0, t.val % 2] :=
  (by decide +kernel : ∀ t : Fin grid1.N, win1_3.index t = ![t.val / 2 + 8, 0, t.val % 2])

theorem out1_idx_at (c : Dev nD) (x : S8x1x1024.Idx) :
    out1_idx V c x = dIdx (xb1 V c (ptOf (x 0) (x 2))) (eb1 V c) (nb1 V c) (sb1 V c (ptOf (x 0) (x 2)))
      (ix3 (0 : Fin 1) (0 : Fin 1) (⟨(x 2).val % 512, Nat.mod_lt _ (by decide)⟩ : Fin 512)) := by
  refine congrFun ((dat1 V c).arrAt_eq_of_covers 4 (fun x : S8x1x1024.Idx => dIdx (xb1 V c (ptOf (x 0) (x 2))) (eb1 V c) (nb1 V c) (sb1 V c (ptOf (x 0) (x 2)))
      (ix3 (0 : Fin 1) (0 : Fin 1) (⟨(x 2).val % 512, Nat.mod_lt _ (by decide)⟩ : Fin 512))) (by decide +kernel) fun t hf y => ?_) x
  have hy2 : (y 2).val < 512 := (y 2).isLt
  have hy1 : (y 1).val < 1 := (y 1).isLt
  have hy0 : (y 0).val < 1 := (y 0).isLt
  have e0 : ((((cfg1.win 4).blk t).view.emb y) 0 : ℕ) = t.val / 2 := by blk_simp [at1_4] <;> simp <;> omega
  have e2 : ((((cfg1.win 4).blk t).view.emb y) 2 : ℕ) = t.val % 2 * 512 + (y 2).val := by blk_simp [at1_4] <;> simp
  have ht : ptOf ((((cfg1.win 4).blk t).view.emb y) 0) ((((cfg1.win 4).blk t).view.emb y) 2) = t := by
    apply Fin.ext
    show 2 * ((((cfg1.win 4).blk t).view.emb y) 0 : ℕ) + ((((cfg1.win 4).blk t).view.emb y) 2 : ℕ) / 512 = t.val
    rw [e0, e2]; omega
  have hy : (ix3 (0 : Fin 1) (0 : Fin 1) (⟨((((cfg1.win 4).blk t).view.emb y) 2).val % 512, Nat.mod_lt _ (by decide)⟩ : Fin 512)) = y := by
    funext a; apply Fin.ext
    fin_cases a
    · show 0 = (y 0).val; omega
    · show 0 = (y 1).val; omega
    · show ((((cfg1.win 4).blk t).view.emb y) 2 : ℕ) % 512 = (y 2).val
      rw [e2]; omega
  show dIdx (xb1 V c t) (eb1 V c) (nb1 V c) (sb1 V c t) y = _
  rw [ht, hy]

theorem out1_loss_eq (c : Dev nD) : out1_loss V c = tot1 V c 16 :=
  (dat1 V c).arrAt_eq_of_after_last 5 t1_15 (by decide +kernel) _ fun j => by
    show tot1 V c 16 _ = tot1 V c 16 _
    congr 1

theorem xb1_at (c : Dev nD) (b : Fin 8) (p : Fin 1024) (k : Fin 64) :
    xb1 V c (ptOf b p) (ix3 (0 : Fin 1) k (⟨p.val % 512, Nat.mod_lt _ (by decide)⟩ : Fin 512))
      = (V c main_v0 : Vec F S16x64x1024 .f32) (ix3 (⟨b.val + 8, by omega⟩ : Fin 16) k p) := by
  have key : ∀ t : Fin cfg1.N, t.val = 2 * b.val + p.val / 512 →
      xb1 V c t (ix3 (0 : Fin 1) k (⟨p.val % 512, Nat.mod_lt _ (by decide)⟩ : Fin 512))
        = (V c main_v0 : Vec F S16x64x1024 .f32) (ix3 (⟨b.val + 8, by omega⟩ : Fin 16) k p) := by
    intro t ht
    blk_ext [xb1, at1_0]
  exact key _ rfl

theorem sb1_at (c : Dev nD) (b : Fin 8) (p : Fin 1024) :
    sb1 V c (ptOf b p) (ix3 (0 : Fin 1) (0 : Fin 1) (⟨p.val % 512, Nat.mod_lt _ (by decide)⟩ : Fin 512))
      = (V c main_v8 : Vec F S16x1x1024 .f32) (ix3 (⟨b.val + 8, by omega⟩ : Fin 16) (0 : Fin 1) p) := by
  have key : ∀ t : Fin cfg1.N, t.val = 2 * b.val + p.val / 512 →
      sb1 V c t (ix3 (0 : Fin 1) (0 : Fin 1) (⟨p.val % 512, Nat.mod_lt _ (by decide)⟩ : Fin 512))
        = (V c main_v8 : Vec F S16x1x1024 .f32) (ix3 (⟨b.val + 8, by omega⟩ : Fin 16) (0 : Fin 1) p) := by
    intro t ht
    blk_ext [sb1, at1_3]
  exact key _ rfl

end Cert.Proof

end
-- ==== Proof.First.lean ====
/-
  The first least entry of a sequence: `First f a b i m` says that `m` is the least of `f` over the places `a … b−1` and `i` the
  first place that holds it. Two neighbouring stretches join by comparing their minima strictly. Folds of the float minimum and of
  the signed integer minimum, and of the host's arg-min body, are read in these terms at the extended reals.
-/
module

public import proofs.«01_k».proof.Proof.TcOut
public import Idealize.ShloMosaic.PureOps.Ideal.Laws
public import Idealize.ShloMosaic.Lib.SortNet.Extract

@[expose] public section

noncomputable section

namespace Cert.Proof

open Idealize.ShloMosaic

/-- `m` is the least entry of `f` on `[a, b)` and `i` the first place of it. -/
structure First (f : ℕ → EReal) (a b i : ℕ) (m : EReal) : Prop where
  lo : a ≤ i
  hi : i < b
  at_ : f i = m
  le : ∀ k, a ≤ k → k < b → m ≤ f k
  lt : ∀ k, a ≤ k → k < i → m < f k

theorem First.unique {f : ℕ → EReal} {a b i i' : ℕ} {m m' : EReal} (h : First f a b i m) (h' : First f a b i' m') :
    i = i' ∧ m = m' := by
  have hm : m = m' := le_antisymm (h'.at_ ▸ h.le _ h'.lo h'.hi) (h.at_ ▸ h'.le _ h.lo h.hi)
  refine ⟨?_, hm⟩
  rcases lt_trichotomy i i' with g | g | g
  · exact absurd (h'.lt i h.lo g) (by rw [h.at_, hm]; exact lt_irrefl _)
  · exact g
  · exact absurd (h.lt i' h'.lo g) (by rw [h'.at_, hm]; exact lt_irrefl _)

/-- Two neighbouring stretches: the later one wins only where its minimum is strictly smaller. -/
theorem First.cat {f : ℕ → EReal} {a b c i i' : ℕ} {m m' : EReal} (h : First f a b i m) (h' : First f b c i' m') :
    First f a c (if m' < m then i' else i) (min m m') := by
  have h1 := h.lo; have h2 := h.hi; have h3 := h'.lo; have h4 := h'.hi
  by_cases g : m' < m
  · rw [if_pos g, min_eq_right (le_of_lt g)]
    refine ⟨by omega, h4, h'.at_, fun k hk hk' => ?_, fun k hk hk' => ?_⟩
    · rcases lt_or_ge k b with u | u
      · exact (le_of_lt g).trans (h.le k hk u)
      · exact h'.le k u hk'
    · rcases lt_or_ge k b with u | u
      · exact g.trans_le (h.le k hk u)
      · exact h'.lt k u hk'
  · rw [if_neg g, min_eq_left (not_lt.mp g)]
    refine ⟨h1, by omega, h.at_, fun k hk hk' => ?_, fun k hk hk' => h.lt k hk hk'⟩
    rcases lt_or_ge k b with u | u
    · exact h.le k hk u
    · exact (not_lt.mp g).trans (h'.le k u hk')

/-! ## Folds -/

/-- A fold of `min` from `⊤` over a set that is not empty is attained and is below every member. -/
theorem fold_min_spec {ι : Type} (s : Finset ι) (g : ι → EReal) (hs : s.Nonempty) :
    (∃ i ∈ s, g i = s.fold min ⊤ g) ∧ ∀ i ∈ s, s.fold min ⊤ g ≤ g i := by
  have hle : ∀ i ∈ s, s.fold min ⊤ g ≤ g i := ((Finset.le_fold_min _).mp (le_refl (s.fold min ⊤ g))).2
  refine ⟨?_, hle⟩
  rcases (Finset.fold_min_le _).mp (le_refl (s.fold min ⊤ g)) with h | ⟨i, hi, h⟩
  · obtain ⟨i, hi⟩ := hs
    exact ⟨i, hi, le_antisymm (le_top.trans h) (hle i hi)⟩
  · exact ⟨i, hi, le_antisymm h (hle i hi)⟩

/-- A fold of the signed minimum is the start or a member's word, and below each of them read signed. -/
theorem fold_minsi_spec {ι : Type} (s : Finset ι) (g : ι → BitVec 32) (acc : BitVec 32) :
    (s.fold IntOp.minsi acc g = acc ∨ ∃ i ∈ s, s.fold IntOp.minsi acc g = g i)
      ∧ (s.fold IntOp.minsi acc g).toInt ≤ acc.toInt ∧ ∀ i ∈ s, (s.fold IntOp.minsi acc g).toInt ≤ (g i).toInt := by
  classical
  induction s using Finset.induction_on with
  | empty => exact ⟨.inl rfl, le_refl _, fun i hi => absurd hi (Finset.notMem_empty i)⟩
  | insert a s ha ih =>
    obtain ⟨h1, h2, h3⟩ := ih
    rw [Finset.fold_insert ha]
    have ht := SortNet.toInt_minsi (g a) (s.fold IntOp.minsi acc g)
    refine ⟨?_, ?_, ?_⟩
    · show (if (g a).slt (s.fold IntOp.minsi acc g) then g a else s.fold IntOp.minsi acc g) = acc ∨ _
      by_cases hc : (g a).slt (s.fold IntOp.minsi acc g)
      · exact .inr ⟨a, Finset.mem_insert_self a s, if_pos hc⟩
      · rcases h1 with h1 | ⟨i, hi, h1⟩
        · exact .inl ((if_neg hc).trans h1)
        · exact .inr ⟨i, Finset.mem_insert_of_mem hi, (if_neg hc).trans h1⟩
    · rw [ht]; exact (min_le_right _ _).trans h2
    · intro i hi
      rw [ht]
      rcases Finset.mem_insert.mp hi with rfl | hi
      · exact min_le_left _ _
      · exact (min_le_right _ _).trans (h3 i hi)

/-- Of a stretch of at most 2³⁰ places: the words of the places that hold the minimum, every other place the word 1024, folded by
    the signed minimum, give the first place. -/
theorem first_of_folds (g : Fin 256 → EReal) (w : Fin 256 → BitVec 32) (acc : BitVec 32) (hacc : acc = 2147483647#32)
    (m : EReal) (hm : m = (Finset.univ : Finset (Fin 256)).fold min ⊤ g)
    (hw : ∀ k, w k = if g k = m then BitVec.ofNat 32 k.val else 1024#32)
    (f : ℕ → EReal) (a : ℕ) (hf : ∀ k : Fin 256, f (a + k.val) = g k) :
    ((Finset.univ : Finset (Fin 256)).fold IntOp.minsi acc w).toNat < 256 ∧
      First f a (a + 256) (a + ((Finset.univ : Finset (Fin 256)).fold IntOp.minsi acc w).toNat) m := by
  obtain ⟨⟨k0, -, hk0⟩, hle⟩ := fold_min_spec (Finset.univ : Finset (Fin 256)) g ⟨0, Finset.mem_univ _⟩
  rw [← hm] at hk0 hle
  obtain ⟨h1, -, h3⟩ := fold_minsi_spec (Finset.univ : Finset (Fin 256)) w acc
  generalize (Finset.univ : Finset (Fin 256)).fold IntOp.minsi acc w = r at h1 h3 ⊢
  have small : ∀ k : Fin 256, (BitVec.ofNat 32 k.val).toInt = k.val := fun k => by
    rw [BitVec.toInt_eq_toNat_of_lt (by rw [BitVec.toNat_ofNat]; omega), BitVec.toNat_ofNat]; omega
  have hr0 : r.toInt ≤ k0.val := by
    have := h3 k0 (Finset.mem_univ _)
    rwa [hw, if_pos hk0, small] at this
  have hlt := k0.isLt
  obtain ⟨i, hi, hri⟩ : ∃ i : Fin 256, g i = m ∧ r = BitVec.ofNat 32 i.val := by
    rcases h1 with h1 | ⟨i, -, h1⟩
    · subst h1; subst hacc
      have : (2147483647#32 : BitVec 32).toInt = 2147483647 := by decide
      omega
    · by_cases hgi : g i = m
      · exact ⟨i, hgi, by rw [h1, hw, if_pos hgi]⟩
      · rw [hw, if_neg hgi] at h1
        subst h1
        have : (1024#32 : BitVec 32).toInt = 1024 := by decide
        omega
  have hn : r.toNat = i.val := by rw [hri, BitVec.toNat_ofNat]; omega
  have hilt := i.isLt
  rw [hn]
  refine ⟨hilt, ⟨by omega, by omega, by rw [hf i, hi], fun k hk hk' => ?_, fun k hk hk' => ?_⟩⟩
  · have := hf ⟨k - a, by omega⟩
    rw [show a + (k - a) = k by omega] at this
    rw [this]; exact hle _ (Finset.mem_univ _)
  · have e := hf ⟨k - a, by omega⟩
    simp only at e
    rw [show a + (k - a) = k by omega] at e
    rw [e]
    refine lt_of_le_of_ne (hle _ (Finset.mem_univ _)) fun hc => ?_
    have := h3 ⟨k - a, by omega⟩ (Finset.mem_univ _)
    have hi' : r.toInt = i.val := by rw [hri, small]
    rw [hw, if_pos hc.symm, small, hi'] at this
    simp only at this
    omega

end Cert.Proof
-- ==== Proof.IdealMin.lean ====
/-
  A grid point's indices and minima at the extended reals: at every pixel of the block, the stored index is the first codeword whose
  distance is least, and the value summed is that distance.
-/
module

public import proofs.«01_k».proof.Proof.First
public import Idealize.ShloMosaic.Lib.Pointwise

@[expose] public section

set_option maxRecDepth 16384

noncomputable section

namespace Cert.Proof

open Cert.KernelIdeal Cert.KernelIdeal.Gen

open Idealize.ShloMosaic

/-- The distance of pixel `j` of the block to codeword `k`, as the kernel writes it. -/
def dist (x : Vec Ideal S1x64x512 .f32) (e : Vec Ideal S1024x64 .f32) (n : Vec Ideal S1024x1 .f32) (xs : Vec Ideal S1x1x512 .f32)
    (j : Fin 512) (k : ℕ) : EReal :=
  (xs (ix3 0 0 j) + n (ix2 ⟨k % 1024, Nat.mod_lt _ (by decide)⟩ 0))
    - Ideal.ofBits .f32 0x40000000#32 * ∑ c : Fin 64, e (ix2 ⟨k % 1024, Nat.mod_lt _ (by decide)⟩ c) * x (ix3 0 c j)

theorem pay4_at (x : Vec Ideal S1x64x512 .f32) (xs : Vec Ideal S1x1x512 .f32) (e : Vec Ideal S256x64 .f32) (n : Vec Ideal S256x1 .f32)
    (k : Fin 256) (j : Fin 512) :
    k0_pay4 x xs e n (ix2 k j) = (xs (ix3 0 0 j) + n (ix2 k 0)) - Ideal.ofBits .f32 0x40000000#32 * ∑ c : Fin 64, e (ix2 k c) * x (ix3 0 c j) := by
  pointwise [k0_pay4, k0_pay2, k0_pay3]

theorem ofBits_inf : Ideal.ofBits .f32 0x7F800000#32 = (⊤ : EReal) := by simp [Ideal.ofBits, Ideal.ieee]

/-- A chunk's index vector from its distances: `k0_pay6` before the offset. -/
def cIdx (d : FVec Ideal S256x512 .f32) : IVec S1x512 32 :=
  shapeCast S1x512 (multiReductionI .minsi [0] S512 (select (cmpf .oeq d (broadcastTo S256x512 (k0_pay8 d) broadcasts_S1x512_S256x512))
    (iota .tc S256x512 32 [0] iota_S256x512_d0_w32) (broadcast S256x512 1024#32)) 2147483647#32 reduces_S256x512_S512 rfl) shapeCasts_S512_S1x512

theorem pay8_at (d : FVec Ideal S256x512 .f32) (j : Fin 512) :
    k0_pay8 d (ix2 0 j) = (Finset.univ : Finset (Fin 256)).fold min ⊤ fun k => d (ix2 k j) := by
  pointwise [k0_pay8]
  rw [ofBits_inf]

theorem cIdx_at (d : FVec Ideal S256x512 .f32) (j : Fin 512) :
    cIdx d (ix2 0 j) = (Finset.univ : Finset (Fin 256)).fold IntOp.minsi 2147483647#32
      fun k => if d (ix2 k j) = k0_pay8 d (ix2 0 j) then BitVec.ofNat 32 k.val else 1024#32 := by
  pointwise [cIdx]

/-- A chunk of 256 codewords from `a` on: its index and its minimum. -/
theorem chunk_first (d : FVec Ideal S256x512 .f32) (j : Fin 512) (f : ℕ → EReal) (a : ℕ) (hf : ∀ k : Fin 256, f (a + k.val) = d (ix2 k j)) :
    (cIdx d (ix2 0 j)).toNat < 256 ∧ First f a (a + 256) (a + (cIdx d (ix2 0 j)).toNat) (k0_pay8 d (ix2 0 j)) := by
  rw [cIdx_at]
  exact first_of_folds (fun k => d (ix2 k j)) _ _ rfl _ (pay8_at d j) (fun k => rfl) f a hf

theorem part_e (e : Vec Ideal S1024x64 .f32) (o : ℕ) (hb) (k : Fin 256) (c : Fin 64) (h : o + k.val < 1024) :
    part (Rect.unit (s := S1024x64) ![o, 0] S256x64.size hb) e (ix2 k c) = e (ix2 ⟨o + k.val, h⟩ c) := by
  unfold part
  congr 1
  funext a
  apply Fin.ext
  match a with
  | ⟨0, _⟩ => show o + 1 * k.val = o + k.val; omega
  | ⟨1, _⟩ => show 0 + 1 * c.val = c.val; omega

theorem part_n (n : Vec Ideal S1024x1 .f32) (o : ℕ) (hb) (k : Fin 256) (h : o + k.val < 1024) :
    part (Rect.unit (s := S1024x1) ![o, 0] S256x1.size hb) n (ix2 k 0) = n (ix2 ⟨o + k.val, h⟩ 0) := by
  unfold part
  congr 1
  funext a
  apply Fin.ext
  match a with
  | ⟨0, _⟩ => show o + 1 * k.val = o + k.val; omega
  | ⟨1, _⟩ => rfl

variable (x : Vec Ideal S1x64x512 .f32) (e : Vec Ideal S1024x64 .f32) (n : Vec Ideal S1024x1 .f32) (xs : Vec Ideal S1x1x512 .f32)

/-- The chunk's distances, codeword `o + k`. -/
theorem chunk_dist (o : ℕ) (he hn) (j : Fin 512) (k : Fin 256) (h : o + k.val < 1024) :
    dist x e n xs j (o + k.val) = k0_pay4 x xs (part (Rect.unit (s := S1024x64) ![o, 0] S256x64.size he) e)
      (part (Rect.unit (s := S1024x1) ![o, 0] S256x1.size hn) n) (ix2 k j) := by
  rw [pay4_at, part_n n o hn k h, Finset.sum_congr rfl fun c _ => by rw [part_e e o he k c h]]
  unfold dist
  have : (⟨(o + k.val) % 1024, Nat.mod_lt _ (by decide)⟩ : Fin 1024) = ⟨o + k.val, h⟩ := Fin.ext (Nat.mod_eq_of_lt h)
  rw [this]

abbrev d0 := k0_pay4 x xs (e0 e) (n0 n)
abbrev d1 := k0_pay4 x xs (e1 e) (n1 n)
abbrev d2 := k0_pay4 x xs (e2 e) (n2 n)
abbrev d3 := k0_pay4 x xs (e3 e) (n3 n)

theorem pay18_at (v3 : FVec Ideal S1x512 .f32) (v71 : IVec S1x512 32) (v72 : FVec Ideal S1x512 .f32) (v74 : FVec Ideal S256x512 .f32)
    (v76 : FVec Ideal S256x1 .f32) (j : Fin 512) :
    k0_pay18 v3 v71 v72 v74 v76 (ix3 0 0 j) =
      Scalar.select (Ideal.cmp .olt (k0_pay8 (k0_pay16 v3 v74 v76) (ix2 0 j)) (v72 (ix2 0 j)))
        (cIdx (k0_pay16 v3 v74 v76) (ix2 0 j) + 768#32) (v71 (ix2 0 j)) := by
  have hs : ∀ v : IVec S1x512 32, shapeCast S1x1x512 v shapeCasts_S1x512_S1x1x512 (ix3 0 0 j) = v (ix2 0 j) := fun v => by pointwise
  unfold k0_pay18 cIdx
  refine (hs _).trans ?_
  rfl

theorem pay12_at (v1 : FVec Ideal S64x512 .f32) (v3 : FVec Ideal S1x512 .f32) (v15 : FVec Ideal S1x512 .f32) (v24 : IVec S1x512 32)
    (v34 : FVec Ideal S256x512 .f32) (v49 : Vec Ideal S256x64 .f32) (v51 : Vec Ideal S256x1 .f32) (j : Fin 512) :
    k0_pay12 v1 v3 v15 v24 v34 v49 v51 (ix2 0 j) =
      Scalar.select (Ideal.cmp .olt (k0_pay8 (k0_pay10 v1 v3 v49 v51) (ix2 0 j)) (min (v15 (ix2 0 j)) (k0_pay8 v34 (ix2 0 j))))
        (cIdx (k0_pay10 v1 v3 v49 v51) (ix2 0 j) + 512#32)
        (Scalar.select (Ideal.cmp .olt (k0_pay8 v34 (ix2 0 j)) (v15 (ix2 0 j))) (cIdx v34 (ix2 0 j) + 256#32) (v24 (ix2 0 j))) := by
  unfold k0_pay12 cIdx
  rfl

theorem dIdx_eq (j : Fin 512) : dIdx x e n xs (ix3 0 0 j) =
    Scalar.select (Ideal.cmp .olt (k0_pay8 (d3 x e n xs) (ix2 0 j))
        (min (min (k0_pay8 (d0 x e n xs) (ix2 0 j)) (k0_pay8 (d1 x e n xs) (ix2 0 j))) (k0_pay8 (d2 x e n xs) (ix2 0 j))))
      (cIdx (d3 x e n xs) (ix2 0 j) + 768#32)
      (Scalar.select (Ideal.cmp .olt (k0_pay8 (d2 x e n xs) (ix2 0 j)) (min (k0_pay8 (d0 x e n xs) (ix2 0 j)) (k0_pay8 (d1 x e n xs) (ix2 0 j))))
        (cIdx (d2 x e n xs) (ix2 0 j) + 512#32)
        (Scalar.select (Ideal.cmp .olt (k0_pay8 (d1 x e n xs) (ix2 0 j)) (k0_pay8 (d0 x e n xs) (ix2 0 j)))
          (cIdx (d1 x e n xs) (ix2 0 j) + 256#32) (cIdx (d0 x e n xs) (ix2 0 j) + 0#32))) := by
  have h0 : k0_pay6 x xs (e0 e) (n0 n) (ix2 0 j) = cIdx (d0 x e n xs) (ix2 0 j) + 0#32 := by unfold k0_pay6 cIdx; rfl
  unfold dIdx
  have h3 : k0_pay16 (k0_pay3 xs) (k0_pay14 (k0_pay2 x) (e3 e)) (k0_pay15 (n3 n)) = d3 x e n xs := rfl
  have h2 : k0_pay10 (k0_pay2 x) (k0_pay3 xs) (e2 e) (n2 n) = d2 x e n xs := rfl
  have hm : pMin x e n xs (ix2 0 j) = min (min (k0_pay8 (d0 x e n xs) (ix2 0 j)) (k0_pay8 (d1 x e n xs) (ix2 0 j))) (k0_pay8 (d2 x e n xs) (ix2 0 j)) := rfl
  rw [pay18_at, h3, hm]
  unfold pIdx
  rw [pay12_at, h0, h2]
  rfl

/-- The running minimum over all four chunks. -/
def mAll (j : Fin 512) : EReal :=
  min (min (min (k0_pay8 (d0 x e n xs) (ix2 0 j)) (k0_pay8 (d1 x e n xs) (ix2 0 j))) (k0_pay8 (d2 x e n xs) (ix2 0 j))) (k0_pay8 (d3 x e n xs) (ix2 0 j))

theorem sel_lt {a b : EReal} (u v : BitVec 32) : Scalar.select (Ideal.cmp .olt a b) u v = if a < b then u else v := by
  unfold Scalar.select Ideal.cmp
  by_cases h : a < b <;> simp [h]

/-- **A point's index** is the first of the 1024 codewords whose distance to the pixel is least. -/
theorem dIdx_first (j : Fin 512) : First (dist x e n xs j) 0 1024 (dIdx x e n xs (ix3 0 0 j)).toNat (mAll x e n xs j) := by
  obtain ⟨a0, b0⟩ := chunk_first (d0 x e n xs) j (dist x e n xs j) 0 fun k => chunk_dist x e n xs 0 _ _ j k (by omega)
  obtain ⟨a1, b1⟩ := chunk_first (d1 x e n xs) j (dist x e n xs j) 256 fun k => chunk_dist x e n xs 256 _ _ j k (by omega)
  obtain ⟨a2, b2⟩ := chunk_first (d2 x e n xs) j (dist x e n xs j) 512 fun k => chunk_dist x e n xs 512 _ _ j k (by omega)
  obtain ⟨a3, b3⟩ := chunk_first (d3 x e n xs) j (dist x e n xs j) 768 fun k => chunk_dist x e n xs 768 _ _ j k (by omega)
  have key := ((b0.cat b1).cat b2).cat b3
  rw [dIdx_eq, sel_lt, sel_lt, sel_lt]
  unfold mAll
  convert key using 1
  split
  · rw [BitVec.toNat_add]; simp; omega
  · split
    · rw [BitVec.toNat_add]; simp; omega
    · split
      · rw [BitVec.toNat_add]; simp; omega
      · rw [BitVec.toNat_add]; simp; omega

theorem dIdx_lt (j : Fin 512) : (dIdx x e n xs (ix3 0 0 j)).toNat < 1024 := (dIdx_first x e n xs j).hi

/-- **A point's total** is the one it finds plus the least distances of its 512 pixels. -/
theorem dLoss_eq (a : Vec Ideal S1x1 .f32) : dLoss x e n xs a (ix2 0 0) = a (ix2 0 0) + ∑ j : Fin 512, mAll x e n xs j := by
  have hs : ∀ (v : FVec Ideal S1x512 .f32) (a : FVec Ideal S1x1 .f32),
      addf (shapeCast S1x1 a shapeCasts_S1x1_S1x1) (shapeCast S1x1 (multiReduction .add [1] S1 v 0x00000000#32 reduces_S1x512_S1 (.inl rfl) rfl) shapeCasts_S1_S1x1) (ix2 0 0)
        = a (ix2 0 0) + ∑ j : Fin 512, v (ix2 0 j) := fun v a => by pointwise
  unfold dLoss k0_pay20
  exact hs _ a

end Cert.Proof
-- ==== Proof.Frames.lean ====
/-
  Over the extended reals: both regions' indices are rows of the table, so the run's assumption holds; the arguments end as they began.
-/
module

public import proofs.«01_k».proof.Proof.Main
public import proofs.«01_k».proof.Proof.IdealMin
public import proofs.«01_k».proof.Proof.TcOut

@[expose] public section

noncomputable section

namespace Cert.Proof

open Cert.KernelIdeal Cert.KernelIdeal.Gen

open Idealize.ShloMosaic
open Idealize.ShloMosaic.TcCoe Idealize.ShloMosaic.Tactic
open Idealize.ShloMosaic.StableHlo (after after_cons after_nil)
open Idealize.SL.Sem

variable (m : (ℓ : Loc nD τ sig) → Buf (Elt Ideal) ℓ) (ρ : Dev nD → PrngReg)

theorem inRange : InRange (F := Ideal) m :=
  ⟨fun d x => by rw [out0_idx_at]; exact dIdx_lt _ _ _ _ _, fun d x => by rw [out1_idx_at]; exact dIdx_lt _ _ _ _ _⟩

theorem W1_arg0 (d : Dev nD) : W1 m d (Proc.devRef .tc main_arg0) = m (d, Proc.devRef .tc main_arg0) := by
  unfold W1 ops1; after_results
  rfl
theorem W1_arg1 (d : Dev nD) : W1 m d (Proc.devRef .tc main_arg1) = m (d, Proc.devRef .tc main_arg1) := by
  unfold W1 ops1; after_results
  rfl
theorem W6_arg0 (d : Dev nD) : W6 m d (Proc.devRef .tc main_arg0) = m (d, Proc.devRef .tc main_arg0) := by
  have h : W6 m d (Proc.devRef .tc main_arg0) = W5 m d (Proc.devRef .tc main_arg0) := by
    unfold W6 ops2; after_results
  rw [h]
  unfold W5 W4
  rw [put_ne _ _ _ _ (by decide), put_ne _ _ _ _ (by decide)]
  unfold W3
  rw [put_ne _ _ _ _ (by decide), put_ne _ _ _ _ (by decide)]
  unfold W2
  rw [put_ne _ _ _ _ (by decide), put_ne _ _ _ _ (by decide), put_ne _ _ _ _ (by decide), W1_arg0]
theorem W6_arg1 (d : Dev nD) : W6 m d (Proc.devRef .tc main_arg1) = m (d, Proc.devRef .tc main_arg1) := by
  have h : W6 m d (Proc.devRef .tc main_arg1) = W5 m d (Proc.devRef .tc main_arg1) := by
    unfold W6 ops2; after_results
  rw [h]
  unfold W5 W4
  rw [put_ne _ _ _ _ (by decide), put_ne _ _ _ _ (by decide)]
  unfold W3
  rw [put_ne _ _ _ _ (by decide), put_ne _ _ _ _ (by decide)]
  unfold W2
  rw [put_ne _ _ _ _ (by decide), put_ne _ _ _ _ (by decide), put_ne _ _ _ _ (by decide), W1_arg1]

theorem kernel_run : θ_run (Cert.KernelIdeal.defs (F := Ideal)) Cert.KernelIdeal.threads ⟨m, fun _ => 0, ρ⟩ (fun r => (∀ c : Dev nD,
      r.2.mem ((c.tc : Thread nD τ).loc main_v16) = W6 m c (Proc.devRef .tc main_v16)
      ∧ r.2.mem ((c.tc : Thread nD τ).loc main_v18) = W6 m c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  haveI : ∀ e, Nonempty (Elt Ideal e) := fun e => by cases e <;> exact ⟨(0 : _)⟩
  θ_run_mono (run_main m ρ (inRange m)) fun r h =>
    ⟨fun c => ⟨(h.1 c).2.1, (h.1 c).2.2, (h.1 c).1.1.trans (W6_arg0 m c), (h.1 c).1.2.trans (W6_arg1 m c)⟩, h.2⟩

end Cert.Proof
-- ==== Proof.RefRun.lean ====
/-
  The reference's run over the extended reals: its values in named stages — the pixels as rows, the distances, the arg-min's row
  numbers, the rows taken, the loss and the output —, and the run that leaves them.
-/
module

public import proofs.«01_k».proof.ReferenceIdeal
public import proofs.«01_k».proof.Proof.Gen.ReferenceIdeal
public import Idealize.ShloMosaic.Lib.Claim
public import Idealize.ShloMosaic.PureOps.Ideal.Laws

@[expose] public section

set_option maxRecDepth 16384

noncomputable section

namespace Cert.Proof.Ref

open Cert.ReferenceIdeal Cert.ReferenceIdeal.Gen

open Idealize.ShloMosaic Idealize.SL.Sem
open Idealize.ShloMosaic.TcCoe Idealize.ShloMosaic.Tactic

variable (a : FVec Ideal S16x64x32x32 .f32) (e : FVec Ideal S1024x64 .f32)

/-- The image with its channels last. -/
def pix : FVec Ideal S16x32x32x64 .f32 := transpose S16x32x32x64 [0, 2, 3, 1] a transposes_S16x64x32x32_S16x32x32x64_0_2_3_1
/-- Its pixels as rows. -/
def rows : FVec Ideal S16384x64 .f32 := shapeCast S16384x64 (pix a) shapeCasts_S16x32x32x64_S16384x64
/-- Every row's distance to every codeword. -/
def dists : FVec Ideal S16384x1024 .f32 :=
  subf
    (addf
      (broadcastInDim S16384x1024 ![0, 1] bcast_S16384x1_S16384x1024_0_1 (broadcastInDim S16384x1 ![0] bcast_S16384_S16384x1_0
        (Host.reduceAdd (mulf (rows a) (rows a)) (constant S_ .f32 0x00000000#32) reducesTo_S16384x64_S16384_d1 h_S_)))
      (broadcastInDim S16384x1024 ![0, 1] bcast_S1x1024_S16384x1024_0_1 (broadcastInDim S1x1024 ![1] bcast_S1024_S1x1024_1
        (Host.reduceAdd (mulf e e) (constant S_ .f32 0x00000000#32) reducesTo_S1024x64_S1024_d1 h_S_))))
    (mulf (broadcastInDim S16384x1024 ![] bcast_S_S16384x1024 (constant S_ .f32 0x40000000#32))
      (Host.dotGeneral dot_S16384x64_S64x1024_S16384x1024_1_0_0_1_n_n none (rows a)
        (transpose S64x1024 [1, 0] e transposes_S1024x64_S64x1024_1_0)))
/-- Every row's least column. -/
def nearOf (d : FVec Ideal S16384x1024 .f32) : IVec S16384 32 := fun j =>
  (Host.argReduce reducer_argmin_f32_i32 d (iotaInDim S16384x1024 32 1) (constant S_ .f32 0x7F800000#32) (constantI S_ 32 0#32)
    reducesTo_S16384x1024_S16384_d1 h_S_ j).2
/-- Every row's nearest codeword. -/
def near : IVec S16384 32 := nearOf (dists a e)
/-- Row numbers with the negative ones counted from the end, as a column. -/
def wrapped (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)
/-- Rows of the table by number, a number outside the table giving the fill. -/
def taken (i : IVec S16384 32) : FVec Ideal S16384x64 .f32 :=
  select
    (broadcastInDim S16384x64 ![0] bcast_S16384_S16384x64_0
      (Host.reduce IntOp.andi
        (andi (cmpi .sge (wrapped i) (broadcastInDim S16384x1 ![] bcast_S_S16384x1 (constantI S_ 32 0#32)))
          (cmpi .sle (wrapped i) (broadcastInDim S16384x1 ![0, 1] bcast_S1x1_S16384x1_0_1 (broadcastInDim S1x1 ![1] bcast_S1_S1x1_1 (constantI S1 32 1023#32)))))
        (constantI S_ 1 1#1) reducesTo_S16384x1_S16384_d1 h_S_))
    (Host.gather gather_S1024x64_S16384x1_S16384x64_1_0_n_n_0_1_164 e (wrapped i))
    (broadcastInDim S16384x64 ![] bcast_S_S16384x64 (constant S_ .f32 0x7FC00000#32))
/-- The rows taken, as an image with its channels last. -/
def quantOf (t : FVec Ideal S16384x64 .f32) : FVec Ideal S16x32x32x64 .f32 := shapeCast S16x32x32x64 t shapeCasts_S16384x64_S16x32x32x64
/-- The mean squared difference of the image and the rows taken. -/
def mseOf (p : FVec Ideal S16x32x32x64 .f32) (t : FVec Ideal S16384x64 .f32) : FVec Ideal S_ .f32 :=
  Host.divf (Host.reduceAdd (mulf (subf (quantOf t) p) (subf (quantOf t) p)) (constant S_ .f32 0x00000000#32)
    reducesTo_S16x32x32x64_S_d0_1_2_3 h_S_) (constant S_ .f32 0x49800000#32)
/-- The loss of it. -/
def lossOf (p : FVec Ideal S16x32x32x64 .f32) (t : FVec Ideal S16384x64 .f32) : FVec Ideal S_ .f32 :=
  addf (mulf (constant S_ .f32 0x3E800000#32) (mseOf p t)) (mseOf p t)
/-- The output of it. -/
def outOf (p : FVec Ideal S16x32x32x64 .f32) (t : FVec Ideal S16384x64 .f32) : FVec Ideal S16x64x32x32 .f32 :=
  transpose S16x64x32x32 [0, 3, 1, 2] (addf p (subf (quantOf t) p)) transposes_S16x32x32x64_S16x64x32x32_0_3_1_2
/-- The first result. -/
def loss : FVec Ideal S_ .f32 := lossOf (pix a) (taken e (near a e))
/-- The second result. -/
def out : FVec Ideal S16x64x32x32 .f32 := outOf (pix a) (taken e (near a e))

/-! ## The operations in four lines, and what each leaves -/

section
variable {F : FTy → Type} [FloatOps F]

/-- The operations up to the distances. -/
def opsA : List (HloOp τ sig (Elt F)) :=
  [StableHlo.unary main_arg0 main_v0 ((transpose S16x32x32x64 [0, 2, 3, 1] · transposes_S16x64x32x32_S16x32x32x64_0_2_3_1) : (⟨S16x64x32x32, .f32⟩ : BufTy).Contents (Elt F) → (⟨S16x32x32x64, .f32⟩ : BufTy).Contents (Elt F)),
   StableHlo.reshape main_v0 main_v1 (rfl : (.f32 : EltTy) = .f32) shapeCasts_S16x32x32x64_S16384x64,
   StableHlo.binary main_v1 main_v1 main_v2 (mulf : (⟨S16384x64, .f32⟩ : BufTy).Contents (Elt F) → (⟨S16384x64, .f32⟩ : BufTy).Contents (Elt F) → (⟨S16384x64, .f32⟩ : BufTy).Contents (Elt F)),
   StableHlo.nullary main_cst (constant S_ .f32 0x00000000#32),
   StableHlo.binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
   StableHlo.unary main_v3 main_v4 (broadcastInDim S16384x1 ![0] bcast_S16384_S16384x1_0 : (⟨S16384, .f32⟩ : BufTy).Contents (Elt F) → (⟨S16384x1, .f32⟩ : BufTy).Contents (Elt F)),
   StableHlo.binary main_arg1 main_arg1 main_v5 (mulf : (⟨S1024x64, .f32⟩ : BufTy).Contents (Elt F) → (⟨S1024x64, .f32⟩ : BufTy).Contents (Elt F) → (⟨S1024x64, .f32⟩ : BufTy).Contents (Elt F)),
   StableHlo.nullary main_cst_0 (constant S_ .f32 0x00000000#32),
   StableHlo.binary main_v5 main_cst_0 main_v6 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
   StableHlo.unary main_v6 main_v7 (broadcastInDim S1x1024 ![1] bcast_S1024_S1x1024_1 : (⟨S1024, .f32⟩ : BufTy).Contents (Elt F) → (⟨S1x1024, .f32⟩ : BufTy).Contents (Elt F)),
   StableHlo.unary main_v4 main_v8 (broadcastInDim S16384x1024 ![0, 1] bcast_S16384x1_S16384x1024_0_1 : (⟨S16384x1, .f32⟩ : BufTy).Contents (Elt F) → (⟨S16384x1024, .f32⟩ : BufTy).Contents (Elt F)),
   StableHlo.unary main_v7 main_v9 (broadcastInDim S16384x1024 ![0, 1] bcast_S1x1024_S16384x1024_0_1 : (⟨S1x1024, .f32⟩ : BufTy).Contents (Elt F) → (⟨S16384x1024, .f32⟩ : BufTy).Contents (Elt F)),
   StableHlo.binary main_v8 main_v9 main_v10 (addf : (⟨S16384x1024, .f32⟩ : BufTy).Contents (Elt F) → (⟨S16384x1024, .f32⟩ : BufTy).Contents (Elt F) → (⟨S16384x1024, .f32⟩ : BufTy).Contents (Elt F)),
   StableHlo.unary main_arg1 main_v11 ((transpose S64x1024 [1, 0] · transposes_S1024x64_S64x1024_1_0) : (⟨S1024x64, .f32⟩ : BufTy).Contents (Elt F) → (⟨S64x1024, .f32⟩ : BufTy).Contents (Elt F)),
   StableHlo.binary main_v1 main_v11 main_v12 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
   StableHlo.nullary main_cst_1 (constant S_ .f32 0x40000000#32),
   StableHlo.unary main_cst_1 main_v13 (broadcastInDim S16384x1024 ![] bcast_S_S16384x1024 : (⟨S_, .f32⟩ : BufTy).Contents (Elt F) → (⟨S16384x1024, .f32⟩ : BufTy).Contents (Elt F)),
   StableHlo.binary main_v13 main_v12 main_v14 (mulf : (⟨S16384x1024, .f32⟩ : BufTy).Contents (Elt F) → (⟨S16384x1024, .f32⟩ : BufTy).Contents (Elt F) → (⟨S16384x1024, .f32⟩ : BufTy).Contents (Elt F)),
   StableHlo.binary main_v10 main_v14 main_v15 (subf : (⟨S16384x1024, .f32⟩ : BufTy).Contents (Elt F) → (⟨S16384x1024, .f32⟩ : BufTy).Contents (Elt F) → (⟨S16384x1024, .f32⟩ : BufTy).Contents (Elt F))]
/-- The arg-min's operations. -/
def opsB : List (HloOp τ sig (Elt F)) :=
  [StableHlo.TRef.nullary main_call0.v0 (iotaInDim S16384x1024 32 1),
   StableHlo.TRef.nullary main_call0.cst (constant S_ .f32 0x7F800000#32),
   StableHlo.TRef.nullary main_call0.c (constantI S_ 32 0#32),
   StableHlo.TRef.quaternary (.of main_v15) main_call0.v0 main_call0.cst main_call0.c main_call0.v1_0 (fun x y u v j => (Host.argReduce reducer_argmin_f32_i32 x y u v reducesTo_S16384x1024_S16384_d1 h_S_ j).1),
   StableHlo.TRef.quaternary (.of main_v15) main_call0.v0 main_call0.cst main_call0.c main_call0.v1_1 (fun x y u v j => (Host.argReduce reducer_argmin_f32_i32 x y u v reducesTo_S16384x1024_S16384_d1 h_S_ j).2)]
/-- The taking of rows. -/
def opsC : List (HloOp τ sig (Elt F)) :=
  [StableHlo.TRef.nullary main_call1.c (constantI S_ 32 0#32),
   StableHlo.TRef.unary main_call1.c main_call1.v0 (broadcastInDim S16384 ![] bcast_S_S16384),
   StableHlo.TRef.binary (.of main_v16) main_call1.v0 main_call1.v1 (cmpi .slt),
   StableHlo.TRef.nullary main_call1.c_0 (constantI S_ 32 1024#32),
   StableHlo.TRef.unary main_call1.c_0 main_call1.v2 (broadcastInDim S16384 ![] bcast_S_S16384),
   StableHlo.TRef.binary (.of main_v16) main_call1.v2 main_call1.v3 addi,
   StableHlo.TRef.ternary main_call1.v1 main_call1.v3 (.of main_v16) main_call1.call0.v0 select,
   StableHlo.TRef.unary main_call1.call0.v0 main_call1.v5 (broadcastInDim S16384x1 ![0] bcast_S16384_S16384x1_0),
   StableHlo.TRef.nullary main_call1.c_1 (constantI S1 32 1023#32),
   StableHlo.TRef.nullary main_call1.c_2 (constantI S_ 32 0#32),
   StableHlo.TRef.unary main_call1.c_2 main_call1.v6 (broadcastInDim S16384x1 ![] bcast_S_S16384x1),
   StableHlo.TRef.binary main_call1.v5 main_call1.v6 main_call1.v7 (cmpi .sge),
   StableHlo.TRef.unary main_call1.c_1 main_call1.v8 (broadcastInDim S1x1 ![1] bcast_S1_S1x1_1),
   StableHlo.TRef.unary main_call1.v8 main_call1.v9 (broadcastInDim S16384x1 ![0, 1] bcast_S1x1_S16384x1_0_1),
   StableHlo.TRef.binary main_call1.v5 main_call1.v9 main_call1.v10 (cmpi .sle),
   StableHlo.TRef.binary main_call1.v7 main_call1.v10 main_call1.v11 andi,
   StableHlo.TRef.nullary main_call1.c_3 (constantI S_ 1 1#1),
   StableHlo.TRef.binary main_call1.v11 main_call1.c_3 main_call1.v12 (fun x v => Host.reduce IntOp.andi x v reducesTo_S16384x1_S16384_d1 h_S_),
   StableHlo.TRef.binary (.of main_arg1) main_call1.v5 main_call1.v13 (fun x i => Host.gather gather_S1024x64_S16384x1_S16384x64_1_0_n_n_0_1_164 x i),
   StableHlo.TRef.unary main_call1.v12 main_call1.v14 (broadcastInDim S16384x64 ![0] bcast_S16384_S16384x64_0),
   StableHlo.TRef.nullary main_call1.cst (constant S_ .f32 0x7FC00000#32),
   StableHlo.TRef.unary main_call1.cst main_call1.v15 (broadcastInDim S16384x64 ![] bcast_S_S16384x64),
   StableHlo.TRef.ternary main_call1.v14 main_call1.v13 main_call1.v15 main_call1.v16 select]
/-- The operations after it. -/
def opsD : List (HloOp τ sig (Elt F)) :=
  [StableHlo.reshape main_v17 main_v18 (rfl : (.f32 : EltTy) = .f32) shapeCasts_S16384x64_S16x32x32x64,
   StableHlo.binary main_v18 main_v0 main_v19 (subf : (⟨S16x32x32x64, .f32⟩ : BufTy).Contents (Elt F) → (⟨S16x32x32x64, .f32⟩ : BufTy).Contents (Elt F) → (⟨S16x32x32x64, .f32⟩ : BufTy).Contents (Elt F)),
   StableHlo.binary main_v19 main_v19 main_v20 (mulf : (⟨S16x32x32x64, .f32⟩ : BufTy).Contents (Elt F) → (⟨S16x32x32x64, .f32⟩ : BufTy).Contents (Elt F) → (⟨S16x32x32x64, .f32⟩ : BufTy).Contents (Elt F)),
   StableHlo.nullary main_cst_2 (constant S_ .f32 0x00000000#32),
   StableHlo.binary main_v20 main_cst_2 main_v21 ((fun x v => Host.reduceAdd x v reducesTo_S16x32x32x64_S_d0_1_2_3 h_S_) : (⟨S16x32x32x64, .f32⟩ : BufTy).Contents (Elt F) → (⟨S_, .f32⟩ : BufTy).Contents (Elt F) → (⟨S_, .f32⟩ : BufTy).Contents (Elt F)),
   StableHlo.nullary main_cst_3 (constant S_ .f32 0x49800000#32),
   StableHlo.binary main_v21 main_cst_3 main_v22 (Host.divf : (⟨S_, .f32⟩ : BufTy).Contents (Elt F) → (⟨S_, .f32⟩ : BufTy).Contents (Elt F) → (⟨S_, .f32⟩ : BufTy).Contents (Elt F)),
   StableHlo.nullary main_cst_4 (constant S_ .f32 0x3E800000#32),
   StableHlo.binary main_cst_4 main_v22 main_v23 (mulf : (⟨S_, .f32⟩ : BufTy).Contents (Elt F) → (⟨S_, .f32⟩ : BufTy).Contents (Elt F) → (⟨S_, .f32⟩ : BufTy).Contents (Elt F)),
   StableHlo.binary main_v18 main_v0 main_v24 (subf : (⟨S16x32x32x64, .f32⟩ : BufTy).Contents (Elt F) → (⟨S16x32x32x64, .f32⟩ : BufTy).Contents (Elt F) → (⟨S16x32x32x64, .f32⟩ : BufTy).Contents (Elt F)),
   StableHlo.binary main_v24 main_v24 main_v25 (mulf : (⟨S16x32x32x64, .f32⟩ : BufTy).Contents (Elt F) → (⟨S16x32x32x64, .f32⟩ : BufTy).Contents (Elt F) → (⟨S16x32x32x64, .f32⟩ : BufTy).Contents (Elt F)),
   StableHlo.nullary main_cst_5 (constant S_ .f32 0x00000000#32),
   StableHlo.binary main_v25 main_cst_5 main_v26 ((fun x v => Host.reduceAdd x v reducesTo_S16x32x32x64_S_d0_1_2_3 h_S_) : (⟨S16x32x32x64, .f32⟩ : BufTy).Contents (Elt F) → (⟨S_, .f32⟩ : BufTy).Contents (Elt F) → (⟨S_, .f32⟩ : BufTy).Contents (Elt F)),
   StableHlo.nullary main_cst_6 (constant S_ .f32 0x49800000#32),
   StableHlo.binary main_v26 main_cst_6 main_v27 (Host.divf : (⟨S_, .f32⟩ : BufTy).Contents (Elt F) → (⟨S_, .f32⟩ : BufTy).Contents (Elt F) → (⟨S_, .f32⟩ : BufTy).Contents (Elt F)),
   StableHlo.binary main_v23 main_v27 main_v28 (addf : (⟨S_, .f32⟩ : BufTy).Contents (Elt F) → (⟨S_, .f32⟩ : BufTy).Contents (Elt F) → (⟨S_, .f32⟩ : BufTy).Contents (Elt F)),
   StableHlo.binary main_v18 main_v0 main_v29 (subf : (⟨S16x32x32x64, .f32⟩ : BufTy).Contents (Elt F) → (⟨S16x32x32x64, .f32⟩ : BufTy).Contents (Elt F) → (⟨S16x32x32x64, .f32⟩ : BufTy).Contents (Elt F)),
   StableHlo.binary main_v0 main_v29 main_v30 (addf : (⟨S16x32x32x64, .f32⟩ : BufTy).Contents (Elt F) → (⟨S16x32x32x64, .f32⟩ : BufTy).Contents (Elt F) → (⟨S16x32x32x64, .f32⟩ : BufTy).Contents (Elt F)),
   StableHlo.unary main_v30 main_v31 ((transpose S16x64x32x32 [0, 3, 1, 2] · transposes_S16x32x32x64_S16x64x32x32_0_3_1_2) : (⟨S16x32x32x64, .f32⟩ : BufTy).Contents (Elt F) → (⟨S16x64x32x32, .f32⟩ : BufTy).Contents (Elt F))]

end

open Idealize.ShloMosaic.StableHlo (after after_cons after_nil IsSeq)

/-- A buffer of the host as the device names it. -/
abbrev dr (b : Ref sig .tc) : DevRef τ sig := Proc.devRef (τ := τ) .tc b

variable (V : Valuation τ sig (Elt Ideal))

theorem A_v15 : after (opsA (F := Ideal)) V (dr main_v15) = dists (V (dr main_arg0)) (V (dr main_arg1)) := by
  unfold opsA; after_results
  rfl
theorem A_v0 : after (opsA (F := Ideal)) V (dr main_v0) = pix (V (dr main_arg0)) := by
  unfold opsA; after_results
  rfl
theorem A_arg0 : after (opsA (F := Ideal)) V (dr main_arg0) = V (dr main_arg0) := by
  unfold opsA; after_results
theorem A_arg1 : after (opsA (F := Ideal)) V (dr main_arg1) = V (dr main_arg1) := by
  unfold opsA; after_results
theorem B_v16 : after (opsB (F := Ideal)) V (dr main_v16) = nearOf (V (dr main_v15)) := by
  unfold opsB; after_results
  rfl
theorem B_v0 : after (opsB (F := Ideal)) V (dr main_v0) = V (dr main_v0) := by
  unfold opsB; after_results
theorem B_arg0 : after (opsB (F := Ideal)) V (dr main_arg0) = V (dr main_arg0) := by
  unfold opsB; after_results
theorem B_arg1 : after (opsB (F := Ideal)) V (dr main_arg1) = V (dr main_arg1) := by
  unfold opsB; after_results
theorem C_v17 : after (opsC (F := Ideal)) V (dr main_v17) = taken (V (dr main_arg1)) (V (dr main_v16)) := by
  unfold opsC; after_results
  simp only [StableHlo.TRef.toBuf, StableHlo.TRef.ofBuf, cast_cast, cast_eq]
  unfold taken wrapped
  rfl
theorem C_v0 : after (opsC (F := Ideal)) V (dr main_v0) = V (dr main_v0) := by
  unfold opsC; after_results
theorem C_arg0 : after (opsC (F := Ideal)) V (dr main_arg0) = V (dr main_arg0) := by
  unfold opsC; after_results
theorem C_arg1 : after (opsC (F := Ideal)) V (dr main_arg1) = V (dr main_arg1) := by
  unfold opsC; after_results
theorem D_v28 : after (opsD (F := Ideal)) V (dr main_v28) = lossOf (V (dr main_v0)) (V (dr main_v17)) := by
  unfold opsD; after_results
  rfl
theorem D_v31 : after (opsD (F := Ideal)) V (dr main_v31) = outOf (V (dr main_v0)) (V (dr main_v17)) := by
  unfold opsD; after_results
  rfl
theorem D_arg0 : after (opsD (F := Ideal)) V (dr main_arg0) = V (dr main_arg0) := by
  unfold opsD; after_results
theorem D_arg1 : after (opsD (F := Ideal)) V (dr main_arg1) = V (dr main_arg1) := by
  unfold opsD; after_results

theorem after_app (l₁ l₂ : List (HloOp τ sig (Elt Ideal))) : after (l₁ ++ l₂) V = after l₂ (after l₁ V) := by
  induction l₁ generalizing V with
  | nil => rfl
  | cons op l ih => exact ih _

/-- All of @main's operations. -/
def opsAll : List (HloOp τ sig (Elt Ideal)) := opsA ++ (opsB ++ (opsC ++ opsD))

theorem main_seq (d : Dev nD) : IsSeq (main (F := Ideal) d) opsAll := by
  unfold opsAll opsA opsB opsC opsD
  simp only [List.cons_append, List.nil_append]
  revert d
  hlo_seq

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v28) = loss (m ((c.tc : Thread nD τ).loc main_arg0)) (m ((c.tc : Thread nD τ).loc main_arg1))
      ∧ r.2.mem ((c.tc : Thread nD τ).loc main_v31) = out (m ((c.tc : Thread nD τ).loc main_arg0)) (m ((c.tc : Thread nD τ).loc main_arg1))) := by
  refine θ_run_mono (StableHlo.run_hlo (ops := opsAll) _ _ main_seq (by decide) (by decide) (by simp [opsAll, opsA, opsB, opsC, opsD])
    (by unfold opsAll opsA opsB opsC opsD; simp only [List.cons_append, List.nil_append]; intro _ h; (repeat (cases h with | head => rfl | tail _ h => ?_)); exact nomatch h) m g) fun r h c => ?_
  rw [h c, h c, h c, h c]
  unfold opsAll
  rw [after_app, after_app, after_app]
  refine ⟨?_, ?_, ?_, ?_⟩
  · refine (D_arg0 _).trans ?_
    rw [C_arg0, B_arg0, A_arg0]
  · refine (D_arg1 _).trans ?_
    rw [C_arg1, B_arg1, A_arg1]
  · refine (D_v28 _).trans ?_
    rw [C_v17, C_v0, B_v16, B_v0, B_arg1, A_v15, A_v0, A_arg1]
    rfl
  · refine (D_v31 _).trans ?_
    rw [C_v17, C_v0, B_v16, B_v0, B_arg1, A_v15, A_v0, A_arg1]
    rfl

theorem run_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_mono (run m g) fun r h => ⟨fun c => ⟨(h c).1, (h c).2.1⟩, sem_eq_zero_of_no_sems (by decide) r.2⟩

end Cert.Proof.Ref
-- ==== Proof.RefArg.lean ====
/-
  The reference's arg-min: the row number it takes is the first column of the least entry.
-/
module

public import proofs.«01_k».proof.Proof.RefRun
public import proofs.«01_k».proof.Proof.First
public import Idealize.ShloMosaic.Lib.Pointwise

@[expose] public section

noncomputable section

namespace Cert.Proof.Ref

open Cert.ReferenceIdeal Cert.ReferenceIdeal.Gen
open Idealize.ShloMosaic

/-- `p` before `q`: a smaller value, or the same and a smaller number. -/
def Before (p q : EReal × BitVec 32) : Prop := p.1 < q.1 ∨ (p.1 = q.1 ∧ p.2.toInt < q.2.toInt)

theorem not_before_trans {p q r : EReal × BitVec 32} (h : ¬ Before p q) (h' : ¬ Before q r) : ¬ Before p r := by
  unfold Before at *
  push Not at *
  obtain ⟨h1, h2⟩ := h
  obtain ⟨h3, h4⟩ := h'
  refine ⟨h3.trans h1, fun hpr => ?_⟩
  have e1 : p.1 = q.1 := le_antisymm (hpr ▸ h3) h1
  exact (h4 (e1 ▸ hpr)).trans (h2 e1)
theorem not_before_of {p q r : EReal × BitVec 32} (h : Before p q) (h' : ¬ Before r q) : ¬ Before r p := by
  intro h''
  apply h'
  unfold Before at *
  rcases h'' with a | ⟨a, a'⟩ <;> rcases h with b | ⟨b, b'⟩
  · exact .inl (a.trans b)
  · exact .inl (b ▸ a)
  · exact .inl (a ▸ b)
  · exact .inr ⟨a.trans b, a'.trans b'⟩
theorem not_before_self (p : EReal × BitVec 32) : ¬ Before p p := by
  unfold Before; simp

/-- The reduction's body keeps the entry that comes before. -/
theorem body_eq (p q : EReal × BitVec 32) :
    (Before p q ∧ reducer_argmin_f32_i32 (F := Ideal) p q = p) ∨ (¬ Before p q ∧ reducer_argmin_f32_i32 (F := Ideal) p q = q) := by
  obtain ⟨a, i⟩ := p
  obtain ⟨b, j⟩ := q
  have e1 : FloatOps.cmpf (F := Ideal) (φ := .f32) .une a a = 0#1 := by
    show BitVec.ofBool (decide (a ≠ a)) = 0#1
    simp
  have e2 : FloatOps.cmpf (F := Ideal) (φ := .f32) .olt a b = BitVec.ofBool (decide (a < b)) := rfl
  have e3 : FloatOps.cmpf (F := Ideal) (φ := .f32) .oeq a b = BitVec.ofBool (decide (a = b)) := rfl
  have e4 : IntOp.cmpi .slt i j = BitVec.ofBool (decide (i.toInt < j.toInt)) := rfl
  unfold reducer_argmin_f32_i32 Before
  dsimp only
  rw [e1, e2, e3, e4]
  by_cases h1 : a < b
  · left; simp [h1, h1.ne, IntOp.ori, IntOp.andi, Scalar.select]
  · by_cases h2 : a = b
    · subst h2
      by_cases h3 : i.toInt < j.toInt
      · left; simp [h3, IntOp.ori, IntOp.andi, Scalar.select]
      · right; simp [h3, IntOp.ori, IntOp.andi, Scalar.select]
    · right; simp [h1, h2, IntOp.ori, IntOp.andi, Scalar.select]

/-- A fold of the body ends at one of its entries, and no entry comes before it. -/
theorem fold_body (l : List (EReal × BitVec 32)) (p : EReal × BitVec 32) :
    l.foldl (reducer_argmin_f32_i32 (F := Ideal)) p ∈ p :: l ∧ ∀ q ∈ p :: l, ¬ Before q (l.foldl (reducer_argmin_f32_i32 (F := Ideal)) p) := by
  induction l generalizing p with
  | nil => exact ⟨List.mem_singleton.2 rfl, fun q hq => by rw [List.mem_singleton.1 hq]; exact not_before_self _⟩
  | cons x l ih =>
    rw [List.foldl_cons]
    rcases body_eq p x with ⟨h, e⟩ | ⟨h, e⟩ <;> rw [e]
    · obtain ⟨h1, h2⟩ := ih p
      refine ⟨?_, fun q hq => ?_⟩
      · rcases List.mem_cons.1 h1 with g | g
        · rw [g]; exact List.mem_cons_self
        · exact List.mem_cons_of_mem _ (List.mem_cons_of_mem _ g)
      · rcases List.mem_cons.1 hq with g | g
        · exact h2 q (g ▸ List.mem_cons_self)
        rcases List.mem_cons.1 g with g | g
        · subst g
          have hp := h2 p List.mem_cons_self
          refine not_before_trans (fun hqp => ?_) hp
          exact not_before_of h (not_before_self q) hqp
        · exact h2 q (List.mem_cons_of_mem _ g)
    · obtain ⟨h1, h2⟩ := ih x
      refine ⟨List.mem_cons_of_mem _ h1, fun q hq => ?_⟩
      rcases List.mem_cons.1 hq with g | g
      · subst g
        exact not_before_trans h (h2 x List.mem_cons_self)
      · exact h2 q g

theorem toInt_k (k : Fin 1024) : (BitVec.ofNat 32 k.val).toInt = k.val := by
  rw [BitVec.toInt_eq_toNat_of_lt] <;> simp only [BitVec.toNat_ofNat] <;> omega
theorem toNat_k (k : Fin 1024) : (BitVec.ofNat 32 k.val).toNat = k.val := by simp only [BitVec.toNat_ofNat]; omega

/-- A fold over a row's entries, each with its number, ends at the first least one. -/
theorem first_of_list (L : List (EReal × BitVec 32)) (f : Fin 1024 → EReal)
    (hmem : ∀ q, q ∈ L ↔ ∃ k : Fin 1024, q = (f k, BitVec.ofNat 32 k.val)) :
    ∃ m, First (fun k => f ⟨k % 1024, Nat.mod_lt _ (by decide)⟩) 0 1024 (L.foldl (reducer_argmin_f32_i32 (F := Ideal)) ((⊤ : EReal), 0#32)).2.toNat m := by
  obtain ⟨h1, h2⟩ := fold_body L ((⊤ : EReal), 0#32)
  generalize L.foldl (reducer_argmin_f32_i32 (F := Ideal)) ((⊤ : EReal), 0#32) = v at h1 h2 ⊢
  have hk : ∃ k : Fin 1024, v = (f k, BitVec.ofNat 32 k.val) := by
    rcases List.mem_cons.1 h1 with g | g
    · have h3 := h2 _ (List.mem_cons_of_mem _ ((hmem _).2 ⟨0, rfl⟩))
      rw [g] at h3
      refine ⟨0, ?_⟩
      unfold Before at h3
      push Not at h3
      have h4 : f 0 = ⊤ := top_le_iff.1 h3.1
      rw [g, h4]; rfl
    · exact (hmem v).1 g
  obtain ⟨k, rfl⟩ := hk
  have key : ∀ k' : Fin 1024, f k ≤ f k' ∧ (f k' = f k → k.val ≤ k'.val) := by
    intro k'
    have h3 := h2 _ (List.mem_cons_of_mem _ ((hmem _).2 ⟨k', rfl⟩))
    unfold Before at h3
    push Not at h3
    refine ⟨h3.1, fun e => ?_⟩
    have := h3.2 e
    simp only [toInt_k] at this
    omega
  have hrow : ∀ k' (h : k' < 1024), f ⟨k' % 1024, Nat.mod_lt _ (by decide)⟩ = f ⟨k', h⟩ := fun k' h => by
    congr 1; exact Fin.ext (Nat.mod_eq_of_lt h)
  dsimp only
  rw [toNat_k]
  refine ⟨f k, Nat.zero_le _, k.isLt, hrow _ k.isLt, fun k' _ h => ?_, fun k' _ h => ?_⟩
  · rw [hrow _ h]; exact (key _).1
  · have h' : k' < 1024 := h.trans k.isLt
    rw [hrow _ h']
    refine lt_of_le_of_ne (key _).1 fun e => ?_
    have := (key ⟨k', h'⟩).2 e.symm
    dsimp only at this
    omega

/-- A row's entries by number. -/
def rowOf (d : FVec Ideal S16384x1024 .f32) (r : Fin 16384) (k : ℕ) : EReal := d (ix2 r ⟨k % 1024, Nat.mod_lt _ (by decide)⟩)

theorem constant_inf {s : Shape} (i : s.Idx) : constant (F := Ideal) s .f32 0x7F800000#32 i = (⊤ : EReal) := by
  have h : constant (F := Ideal) s .f32 0x7F800000#32 i = Ideal.ofBits .f32 0x7F800000#32 := rfl
  rw [h]
  simp [Ideal.ofBits, Ideal.ieee]
theorem constantI_at {s : Shape} (i : s.Idx) : constantI s 32 0#32 i = 0#32 := rfl
theorem snd_at {ι α β : Type} (f : ι → β) (g : ι → α × β) (h : f = fun j => (g j).2) (r : ι) : f r = (g r).2 := by rw [h]
theorem near_at (d : FVec Ideal S16384x1024 .f32) (r : S16384.Idx) : nearOf d r = (Host.reduce2 reducer_argmin_f32_i32 d
    (iotaInDim S16384x1024 32 1) (constant S_ .f32 0x7F800000#32) (constantI S_ 32 0#32) reducesTo_S16384x1024_S16384_d1 h_S_ r).2 := by
  rw [snd_at (nearOf d) (Host.argReduce reducer_argmin_f32_i32 d (iotaInDim S16384x1024 32 1) (constant S_ .f32 0x7F800000#32)
    (constantI S_ 32 0#32) reducesTo_S16384x1024_S16384_d1 h_S_) rfl r, Ideal.argReduce_eq_reduce2]

theorem mem_fiber_of {s t : Shape} {axes : List (Fin s.rank)} {α β : Type} (x : s.Idx → α) (y : s.Idx → β) (h : s.ReducesTo axes t)
    (j : t.Idx) (q : α × β) : q ∈ Host.argReduceFiber x y h j ↔ ∃ i : s.Idx, h.drop i = j ∧ q = (x i, y i) := by
  unfold Host.argReduceFiber
  rw [List.mem_map]
  constructor
  · rintro ⟨n, hn, rfl⟩
    exact ⟨s.rowMajor.symm n, of_decide_eq_true (List.mem_filter.1 hn).2, rfl⟩
  · rintro ⟨i, hi, rfl⟩
    refine ⟨s.rowMajor i, List.mem_filter.2 ⟨List.mem_finRange _, ?_⟩, ?_⟩ <;> rw [Equiv.symm_apply_apply]
    exact decide_eq_true hi

theorem drop_row (i : S16384x1024.Idx) (r : Fin 16384) : reducesTo_S16384x1024_S16384_d1.drop i = ix1 r ↔ i 0 = r := by
  have hv := Shape.ReducesTo.drop_apply_val_of_eq reducesTo_S16384x1024_S16384_d1 i 0 0
  constructor
  · intro h
    have := congrFun h 0
    rw [this] at hv
    exact (Fin.ext hv).symm
  · intro h
    funext b
    match b with
    | 0 => exact Fin.ext (hv.trans (congrArg Fin.val h))

theorem mem_fiber (d : FVec Ideal S16384x1024 .f32) (r : Fin 16384) (q : EReal × BitVec 32) :
    q ∈ Host.argReduceFiber d (iotaInDim S16384x1024 32 1) reducesTo_S16384x1024_S16384_d1 (ix1 r) ↔
      ∃ k : Fin 1024, q = (d (ix2 r k), BitVec.ofNat 32 k.val) := by
  rw [mem_fiber_of]
  constructor
  · rintro ⟨i, hi, rfl⟩
    rw [drop_row] at hi
    refine ⟨i 1, ?_⟩
    have hx : i = ix2 r (i 1) := by rw [← hi]; exact eq_ix2 i
    exact congrArg₂ Prod.mk (congrArg d hx) rfl
  · rintro ⟨k, rfl⟩
    refine ⟨ix2 r k, (drop_row _ _).2 rfl, rfl⟩

theorem near_first (d : FVec Ideal S16384x1024 .f32) (r : Fin 16384) :
    ∃ m, First (rowOf d r) 0 1024 (nearOf d (ix1 r)).toNat m := by
  have h := first_of_list _ (fun k => d (ix2 r k)) (mem_fiber d r)
  have hn : nearOf d (ix1 r) = ((Host.argReduceFiber d (iotaInDim S16384x1024 32 1) reducesTo_S16384x1024_S16384_d1 (ix1 r)).foldl
      (reducer_argmin_f32_i32 (F := Ideal)) ((⊤ : EReal), 0#32)).2 := by
    rw [near_at, Host.reduce2_eq_foldl_fiber, constant_inf, constantI_at]
  rw [hn]
  exact h

end Cert.Proof.Ref
-- ==== Proof.RefVal.lean ====
/-
  The reference's values at an index.
-/
module

public import proofs.«01_k».proof.Proof.RefArg

@[expose] public section

noncomputable section

namespace Cert.Proof.Ref

open Cert.ReferenceIdeal Cert.ReferenceIdeal.Gen
open Idealize.ShloMosaic

variable (a : FVec Ideal S16x64x32x32 .f32) (e : FVec Ideal S1024x64 .f32)

/-- Image `b`'s pixel `p`, channel `c`. -/
def px (b : Fin 16) (p : Fin 1024) (c : Fin 64) : EReal :=
  a (ix4 b c ⟨p.val / 32, by have := p.isLt; omega⟩ ⟨p.val % 32, Nat.mod_lt _ (by decide)⟩)
/-- The row of image `b`'s pixel `p`. -/
def row (b : Fin 16) (p : Fin 1024) : Fin 16384 := ⟨b.val * 1024 + p.val, by have := b.isLt; have := p.isLt; omega⟩

theorem pix_at (b : Fin 16) (h w : Fin 32) (c : Fin 64) : pix a (ix4 b h w c) = a (ix4 b c h w) := by
  pointwise [pix]

theorem rows_at (b : Fin 16) (p : Fin 1024) (c : Fin 64) : rows a (ix2 (row b p) c) = px a b p c := by
  have hb := b.isLt
  have hp := p.isLt
  have h : rows a (ix2 (row b p) c) = pix a (ix4 b ⟨p.val / 32, by omega⟩ ⟨p.val % 32, Nat.mod_lt _ (by decide)⟩ c) := by
    unfold rows row
    pointwise
    have h1 : (b.val * 1024 + p.val) / 32 % 32 = p.val / 32 := by omega
    have h2 : (b.val * 1024 + p.val) % 32 = p.val % 32 := by omega
    simp only [h1, h2]
  rw [h, pix_at]; rfl

theorem dists_at (r : Fin 16384) (k : Fin 1024) : dists a e (ix2 r k) =
    ((∑ c : Fin 64, rows a (ix2 r c) * rows a (ix2 r c)) + ∑ c : Fin 64, e (ix2 k c) * e (ix2 k c))
      - Ideal.ofBits .f32 0x40000000#32 * ∑ c : Fin 64, rows a (ix2 r c) * e (ix2 k c) := by
  unfold dists
  pointwise

theorem quantOf_at (t : FVec Ideal S16384x64 .f32) (b : Fin 16) (h w : Fin 32) (c : Fin 64) :
    quantOf t (ix4 b h w c) = t (ix2 (row b ⟨h.val * 32 + w.val, by have := h.isLt; have := w.isLt; omega⟩) c) := by
  unfold quantOf row
  pointwise
  simp only [Nat.add_assoc]

theorem outOf_at (q : FVec Ideal S16x32x32x64 .f32) (t : FVec Ideal S16384x64 .f32) (b : Fin 16) (h w : Fin 32) (c : Fin 64) :
    outOf q t (ix4 b c h w) = q (ix4 b h w c) + (quantOf t (ix4 b h w c) - q (ix4 b h w c)) := by
  pointwise [outOf]

/-- A sum over every axis is the sum over all indices. -/
theorem reduce_all {s : Shape} {axes : List (Fin s.rank)} (h : s.ReducesTo axes ⟨0, ![]⟩) (x : s.Idx → EReal) (j : (⟨0, ![]⟩ : Shape).Idx) :
    Ideal.hostReduceAdd h x 0 j = ∑ i, x i := by
  unfold Ideal.hostReduceAdd
  rw [zero_add, Finset.filter_true_of_mem]
  intro i _
  funext q
  exact q.elim0

theorem mseOf_at (q : FVec Ideal S16x32x32x64 .f32) (t : FVec Ideal S16384x64 .f32) :
    mseOf q t ix0 = Ideal.div (∑ b : Fin 16, ∑ h : Fin 32, ∑ w : Fin 32, ∑ c : Fin 64,
      (quantOf t (ix4 b h w c) - q (ix4 b h w c)) * (quantOf t (ix4 b h w c) - q (ix4 b h w c))) (Ideal.ofBits .f32 0x49800000#32) := by
  unfold mseOf
  pointwise
  refine congrArg (Ideal.div · _) ?_
  rw [reduce_all]
  simp only [sum_idx4]
  rfl

theorem not_neg {w : BitVec 32} (h : w.toNat < 1024) : IntOp.cmpi .slt w 0#32 = 0#1 := by
  have : w.toInt = w.toNat := BitVec.toInt_eq_toNat_of_lt (by omega)
  have h0 : ¬ (w.toNat : ℤ) < 0 := by omega
  simp only [IntOp.cmpi, BitVec.slt, this, BitVec.toInt_zero, h0]
  rfl
theorem in_bounds {w : BitVec 32} (h : w.toNat < 1024) : IntOp.andi (IntOp.cmpi .sge w 0#32) (IntOp.cmpi .sle w 1023#32) = 1#1 := by
  have : w.toInt = w.toNat := BitVec.toInt_eq_toNat_of_lt (by omega)
  have h1 : (w.toNat : ℤ) ≤ 1023 := by omega
  simp [IntOp.cmpi, IntOp.andi, BitVec.sle, this, h1]
theorem toInt_small {w : BitVec 32} (h : w.toNat < 1024) : min w.toInt.toNat 1023 = w.toNat := by
  have : w.toInt = w.toNat := BitVec.toInt_eq_toNat_of_lt (by omega)
  omega

/-- The reference's gather reads the row its index names, clamped to the codebook. -/
theorem gather_at (v : IVec S16384x1 32) (r : Fin 16384) (c : Fin 64) :
    Host.gather gather_S1024x64_S16384x1_S16384x64_1_0_n_n_0_1_164 e v (ix2 r c)
      = e (ix2 ⟨min (v (ix2 r 0)).toInt.toNat 1023, by omega⟩ c) := by
  unfold Host.gather
  refine congrArg e (funext fun q => Fin.ext ?_)
  have hv : ∀ z, gather_S1024x64_S16384x1_S16384x64_1_0_n_n_0_1_164.siIdx (ix2 r c) z = ix2 r 0 := by
    intro z
    funext b
    match b with
    | ⟨0, _⟩ => rfl
    | ⟨1, _⟩ => exact Subsingleton.elim (α := Fin 1) _ _
  match q with
  | ⟨0, _⟩ =>
    simp only [GatherDims.operandIdx, GatherDims.start, hv]
    rfl
  | ⟨1, _⟩ =>
    simp only [GatherDims.operandIdx, GatherDims.start, hv]
    show 0 + 0 + c.val = c.val
    omega

theorem wrapped_at (i : IVec S16384 32) (r : Fin 16384) (h : (i (ix1 r)).toNat < 1024) : wrapped i (ix2 r 0) = i (ix1 r) := by
  unfold wrapped
  pointwise
  have hn : IntOp.cmpi .slt (i (ix1 r)) 0#32 = 0#1 := not_neg h
  rw [hn]
  rfl

theorem taken_at (i : IVec S16384 32) (r : Fin 16384) (c : Fin 64) (h : (i (ix1 r)).toNat < 1024) :
    taken e i (ix2 r c) = e (ix2 ⟨(i (ix1 r)).toNat, h⟩ c) := by
  have hw := wrapped_at i r h
  unfold taken
  generalize wrapped i = v at hw ⊢
  pointwise
  have hb : (Finset.univ : Finset (Fin 1)) = {0} := rfl
  rw [hb, Finset.fold_singleton, hw, in_bounds h, gather_at]
  simp only [hw, toInt_small h]
  rfl

end Cert.Proof.Ref
-- ==== Proof.RefReal.lean ====
/-
  The reference's results over real arrays.
-/
module

public import proofs.«01_k».proof.Proof.RefVal

@[expose] public section

noncomputable section

namespace Cert.Proof.Ref

open Cert.ReferenceIdeal Cert.ReferenceIdeal.Gen
open Idealize.ShloMosaic

theorem ofBits_two : Ideal.ofBits .f32 0x40000000#32 = ((2 : ℝ) : EReal) := by
  simp only [Ideal.ofBits, Ideal.ieee]; simp; rw [← EReal.coe_mul]; norm_num
theorem ofBits_quarter : Ideal.ofBits .f32 0x3E800000#32 = ((1 / 4 : ℝ) : EReal) := by
  simp only [Ideal.ofBits, Ideal.ieee]; simp; rw [← EReal.coe_mul]; norm_num
theorem ofBits_size : Ideal.ofBits .f32 0x49800000#32 = ((1048576 : ℝ) : EReal) := by
  simp only [Ideal.ofBits, Ideal.ieee]; simp; rw [← EReal.coe_mul]; norm_num

/-- A sum of reals is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert i s h ih => rw [Finset.sum_insert h, Finset.sum_insert h, ih, EReal.coe_add]

/-- The expanded square of a difference of two vectors. -/
theorem expand {n : ℕ} (x y : Fin n → ℝ) :
    ((∑ c, x c * x c) + ∑ c, y c * y c) - 2 * ∑ c, x c * y c = ∑ c, (y c - x c) * (y c - x c) := by
  rw [Finset.mul_sum, ← Finset.sum_add_distrib, ← Finset.sum_sub_distrib]
  exact Finset.sum_congr rfl fun c _ => by ring

/-- The same over the extended reals. -/
theorem expand_coe {n : ℕ} (x y : Fin n → ℝ) :
    ((∑ c, (x c : EReal) * x c) + ∑ c, (y c : EReal) * y c) - Ideal.ofBits .f32 0x40000000#32 * ∑ c, (x c : EReal) * y c
      = ((∑ c, (y c - x c) * (y c - x c) : ℝ) : EReal) := by
  rw [← expand, ofBits_two]
  simp only [← EReal.coe_mul, coe_sum, ← EReal.coe_add, ← EReal.coe_sub]

variable (A : S16x64x32x32.Idx → ℝ) (E : S1024x64.Idx → ℝ)

/-- The image, as the kernel's values. -/
def upA : FVec Ideal S16x64x32x32 .f32 := fun i => ((A i : ℝ) : EReal)
/-- The codebook, as the kernel's values. -/
def upE : FVec Ideal S1024x64 .f32 := fun i => ((E i : ℝ) : EReal)

/-- Image `b`'s pixel `p`, channel `c`, as a real. -/
def pr (b : Fin 16) (p : Fin 1024) (c : Fin 64) : ℝ :=
  A (ix4 b c ⟨p.val / 32, by have := p.isLt; omega⟩ ⟨p.val % 32, Nat.mod_lt _ (by decide)⟩)

/-- The squared distance of a pixel from a codeword. -/
def sqd (b : Fin 16) (p : Fin 1024) (k : Fin 1024) : ℝ :=
  ∑ c : Fin 64, (E (ix2 k c) - pr A b p c) * (E (ix2 k c) - pr A b p c)

/-- The reference's choice at a pixel. -/
def ni (b : Fin 16) (p : Fin 1024) : Fin 1024 :=
  ⟨(near (upA A) (upE E) (ix1 (row b p))).toNat % 1024, Nat.mod_lt _ (by decide)⟩

/-- The squared distance of a pixel from its choice. -/
def sq (b : Fin 16) (p : Fin 1024) : ℝ := sqd A E b p (ni A E b p)

theorem dists_real (b : Fin 16) (p : Fin 1024) (k : Fin 1024) :
    dists (upA A) (upE E) (ix2 (row b p) k) = ((sqd A E b p k : ℝ) : EReal) := by
  rw [dists_at]
  simp only [rows_at]
  exact expand_coe (fun c => pr A b p c) (fun c => E (ix2 k c))

theorem near_lt (b : Fin 16) (p : Fin 1024) : (near (upA A) (upE E) (ix1 (row b p))).toNat < 1024 := by
  obtain ⟨m, h⟩ := near_first (dists (upA A) (upE E)) (row b p)
  exact h.hi

theorem near_eq (b : Fin 16) (p : Fin 1024) : (near (upA A) (upE E) (ix1 (row b p))).toNat = (ni A E b p).val :=
  (Nat.mod_eq_of_lt (near_lt A E b p)).symm

/-- The choice is the first of the least distances. -/
theorem first_real (b : Fin 16) (p : Fin 1024) :
    First (fun k => ((sqd A E b p ⟨k % 1024, Nat.mod_lt _ (by decide)⟩ : ℝ) : EReal)) 0 1024 (ni A E b p).val ((sq A E b p : ℝ) : EReal) := by
  obtain ⟨m, h⟩ := near_first (dists (upA A) (upE E)) (row b p)
  have hf : rowOf (dists (upA A) (upE E)) (row b p)
      = fun k => ((sqd A E b p ⟨k % 1024, Nat.mod_lt _ (by decide)⟩ : ℝ) : EReal) := by
    funext k
    exact dists_real A E b p _
  rw [hf] at h
  have h' : First (fun k => ((sqd A E b p ⟨k % 1024, Nat.mod_lt _ (by decide)⟩ : ℝ) : EReal)) 0 1024
      (near (upA A) (upE E) (ix1 (row b p))).toNat m := h
  have hm : ((sq A E b p : ℝ) : EReal) = m := h'.at_
  rw [hm, ← near_eq]
  exact h'

theorem quant_real (b : Fin 16) (h w : Fin 32) (c : Fin 64) :
    quantOf (taken (upE E) (near (upA A) (upE E))) (ix4 b h w c)
      = ((E (ix2 (ni A E b ⟨h.val * 32 + w.val, by have := h.isLt; have := w.isLt; omega⟩) c) : ℝ) : EReal) := by
  rw [quantOf_at, taken_at _ _ _ _ (near_lt A E b _)]
  simp only [near_eq]
  rfl

theorem pix_real (b : Fin 16) (h w : Fin 32) (c : Fin 64) :
    pix (upA A) (ix4 b h w c) = ((pr A b ⟨h.val * 32 + w.val, by have := h.isLt; have := w.isLt; omega⟩ c : ℝ) : EReal) := by
  have hw := w.isLt
  rw [pix_at]
  unfold pr upA
  have h1 : (h.val * 32 + w.val) / 32 = h.val := by omega
  have h2 : (h.val * 32 + w.val) % 32 = w.val := by omega
  simp only [h1, h2]

/-- The reference's second result: the chosen codewords. -/
theorem out_real (b : Fin 16) (h w : Fin 32) (c : Fin 64) :
    out (upA A) (upE E) (ix4 b c h w)
      = ((E (ix2 (ni A E b ⟨h.val * 32 + w.val, by have := h.isLt; have := w.isLt; omega⟩) c) : ℝ) : EReal) := by
  unfold out
  rw [outOf_at, quant_real, pix_real, ← EReal.coe_sub, ← EReal.coe_add]
  congr 1
  ring

/-- The reference's first result: five quarters of the mean squared distance. -/
theorem loss_real : loss (upA A) (upE E) ix0
    = ((5 / 4 / 1048576 * ∑ b : Fin 16, ∑ h : Fin 32, ∑ w : Fin 32,
        sq A E b ⟨h.val * 32 + w.val, by have := h.isLt; have := w.isLt; omega⟩ : ℝ) : EReal) := by
  have h : mseOf (pix (upA A)) (taken (upE E) (near (upA A) (upE E))) ix0
      = (((∑ b : Fin 16, ∑ h : Fin 32, ∑ w : Fin 32,
        sq A E b ⟨h.val * 32 + w.val, by have := h.isLt; have := w.isLt; omega⟩) * (1 / 1048576) : ℝ) : EReal) := by
    rw [mseOf_at, ofBits_size, Ideal.div_coe (by norm_num), EReal.coe_mul]
    refine congrArg (fun z : EReal => z * ((1 / 1048576 : ℝ) : EReal)) ?_
    simp only [quant_real, pix_real, ← EReal.coe_sub, ← EReal.coe_mul, coe_sum, sq, sqd]
  have h2 : loss (upA A) (upE E) ix0 = Ideal.ofBits .f32 0x3E800000#32 * mseOf (pix (upA A)) (taken (upE E) (near (upA A) (upE E))) ix0
      + mseOf (pix (upA A)) (taken (upE E) (near (upA A) (upE E))) ix0 := rfl
  rw [h2, h, ofBits_quarter, ← EReal.coe_mul, ← EReal.coe_add]
  congr 1
  ring

end Cert.Proof.Ref
-- ==== Proof.Value.lean ====
/-
  What the kernel's host buffers hold over real arrays: every pixel's index and least distance are the reference's.
-/
module

public import proofs.«01_k».proof.Proof.Frames
public import proofs.«01_k».proof.Proof.RefReal

@[expose] public section

noncomputable section

namespace Cert.Proof

open Cert.KernelIdeal Cert.KernelIdeal.Gen

open Idealize.ShloMosaic
open Idealize.ShloMosaic.TcCoe Idealize.ShloMosaic.Tactic
open Idealize.ShloMosaic.StableHlo (after after_cons after_nil)
open Cert.Proof.Ref (pr ni sq sqd upA upE first_real expand_coe coe_sum)

/-! ## One pixel -/

section

variable (A : S16x64x32x32.Idx → ℝ) (E : S1024x64.Idx → ℝ)

/-- **One pixel**: where a grid point's tiles hold the image and the codebook, its index is the reference's and its least
    distance the squared distance of the chosen codeword. -/
theorem pixel (b : Fin 16) (p : Fin 1024) (x : Vec Ideal S1x64x512 .f32) (e : Vec Ideal S1024x64 .f32) (n : Vec Ideal S1024x1 .f32)
    (xs : Vec Ideal S1x1x512 .f32) (j : Fin 512) (hx : ∀ c, x (ix3 0 c j) = ((pr A b p c : ℝ) : EReal))
    (he : ∀ k c, e (ix2 k c) = ((E (ix2 k c) : ℝ) : EReal))
    (hn : ∀ k, n (ix2 k 0) = ∑ c : Fin 64, ((E (ix2 k c) : ℝ) : EReal) * ((E (ix2 k c) : ℝ) : EReal))
    (hs : xs (ix3 0 0 j) = ∑ c : Fin 64, ((pr A b p c : ℝ) : EReal) * ((pr A b p c : ℝ) : EReal)) :
    (dIdx x e n xs (ix3 0 0 j)).toNat = (ni A E b p).val ∧ mAll x e n xs j = ((sq A E b p : ℝ) : EReal) := by
  have hd : dist x e n xs j = fun k => ((sqd A E b p ⟨k % 1024, Nat.mod_lt _ (by decide)⟩ : ℝ) : EReal) := by
    funext k
    unfold dist
    simp only [hx, he, hn, hs]
    simp only [mul_comm ((E _ : ℝ) : EReal) ((pr A b p _ : ℝ) : EReal)]
    exact expand_coe (fun c => pr A b p c) (fun c => E (ix2 _ c))
  have h := dIdx_first x e n xs j
  rw [hd] at h
  exact h.unique (first_real A E b p)

end

/-! ## The host's operations before the calls -/

section

variable (a : FVec Ideal S16x64x32x32 .f32) (e : FVec Ideal S1024x64 .f32)

theorem flat_at (b : Fin 16) (c : Fin 64) (p : Fin 1024) : shapeCast S16x64x1024 a shapeCasts_S16x64x32x32_S16x64x1024 (ix3 b c p)
    = Ref.px a b p c := by
  have hp := p.isLt
  unfold Ref.px
  pointwise

/-- The squared norms of the codewords. -/
def norms : FVec Ideal S1024x1 .f32 :=
  shapeCast S1024x1 (Host.reduceAdd (mulf e e) (constant S_ .f32 0x00000000#32) reducesTo_S1024x64_S1024_d1 h_S_) shapeCasts_S1024_S1024x1
/-- The pixels as rows. -/
def pixels : FVec Ideal S16384x64 .f32 :=
  shapeCast S16384x64 (transpose S16x32x32x64 [0, 2, 3, 1] a transposes_S16x64x32x32_S16x32x32x64_0_2_3_1) shapeCasts_S16x32x32x64_S16384x64
/-- The squared norms of the rows. -/
def squares (r : FVec Ideal S16384x64 .f32) : FVec Ideal S16x1x1024 .f32 :=
  shapeCast S16x1x1024 (Host.reduceAdd (mulf r r) (constant S_ .f32 0x00000000#32) reducesTo_S16384x64_S16384_d1 h_S_) shapeCasts_S16384_S16x1x1024

theorem norms_at (k : Fin 1024) : norms e (ix2 k 0) = ∑ c : Fin 64, e (ix2 k c) * e (ix2 k c) := by
  unfold norms
  pointwise

theorem squares_at (r : FVec Ideal S16384x64 .f32) (b : Fin 16) (p : Fin 1024) :
    squares r (ix3 b 0 p) = ∑ c : Fin 64, r (ix2 (Ref.row b p) c) * r (ix2 (Ref.row b p) c) := by
  unfold squares Ref.row
  pointwise

theorem pixels_at (b : Fin 16) (p : Fin 1024) (c : Fin 64) : pixels a (ix2 (Ref.row b p) c) = Ref.px a b p c := Ref.rows_at a b p c

end

section

variable (m : (ℓ : Loc nD τ sig) → Buf (Elt Ideal) ℓ)

/-- The image a device begins with. -/
abbrev imgOf (d : Dev nD) : FVec Ideal S16x64x32x32 .f32 := m (d, Proc.devRef .tc main_arg0)
/-- The codebook a device begins with. -/
abbrev bookOf (d : Dev nD) : FVec Ideal S1024x64 .f32 := m (d, Proc.devRef .tc main_arg1)

theorem W1_v0 (d : Dev nD) : W1 m d (Proc.devRef .tc main_v0) = shapeCast S16x64x1024 (imgOf m d) shapeCasts_S16x64x32x32_S16x64x1024 := by
  unfold W1 ops1; after_results
  rfl
theorem W1_v3 (d : Dev nD) : W1 m d (Proc.devRef .tc main_v3) = norms (bookOf m d) := by
  unfold W1 ops1; after_results
  rfl
theorem W1_v8 (d : Dev nD) : W1 m d (Proc.devRef .tc main_v8) = squares (pixels (imgOf m d)) := by
  unfold W1 ops1; after_results
  rfl

end

end Cert.Proof
-- ==== Proof.Result.lean ====
/-
  The kernel's two results over real arrays are the reference's.
-/
module

public import proofs.«01_k».proof.Proof.Value

@[expose] public section

noncomputable section

namespace Cert.Proof

open Cert.KernelIdeal Cert.KernelIdeal.Gen

open Idealize.ShloMosaic
open Idealize.ShloMosaic.TcCoe Idealize.ShloMosaic.Tactic
open Idealize.ShloMosaic.StableHlo (after after_cons after_nil)
open Cert.Proof.Ref (pr ni sq sqd upA upE coe_sum)

variable (m : (ℓ : Loc nD τ sig) → Buf (Elt Ideal) ℓ) (A : S16x64x32x32.Idx → ℝ) (E : S1024x64.Idx → ℝ) (d : Dev nD)
  (hA : imgOf m d = upA A) (hE : bookOf m d = upE E)

/-! ## Every pixel of both calls -/

section
include hA hE

theorem pixel0 (b : Fin 8) (p : Fin 1024) :
    (dIdx (xb0 (toV (W1 m)) d (ptOf b p)) (eb0 (toV (W1 m)) d) (nb0 (toV (W1 m)) d) (sb0 (toV (W1 m)) d (ptOf b p))
        (ix3 0 0 ⟨p.val % 512, Nat.mod_lt _ (by decide)⟩)).toNat = (ni A E ⟨b.val, by omega⟩ p).val
    ∧ mAll (xb0 (toV (W1 m)) d (ptOf b p)) (eb0 (toV (W1 m)) d) (nb0 (toV (W1 m)) d) (sb0 (toV (W1 m)) d (ptOf b p))
        ⟨p.val % 512, Nat.mod_lt _ (by decide)⟩ = ((sq A E ⟨b.val, by omega⟩ p : ℝ) : EReal) := by
  have h1 : (toV (W1 m)) d main_arg1 = upE E := (W1_arg1 m d).trans hE
  refine pixel A E ⟨b.val, by omega⟩ p _ _ _ _ _ (fun c => ?_) (fun k c => ?_) (fun k => ?_) ?_
  · rw [xb0_at, show toV (W1 m) d main_v0 = _ from W1_v0 m d, flat_at, hA]
    rfl
  · exact congrFun h1 _
  · have h3 : nb0 (toV (W1 m)) d = norms (upE E) := (W1_v3 m d).trans (congrArg norms hE)
    rw [h3, norms_at]
    rfl
  · rw [sb0_at, show toV (W1 m) d main_v8 = _ from W1_v8 m d, squares_at]
    simp only [pixels_at, hA]
    rfl

theorem pixel1 (b : Fin 8) (p : Fin 1024) :
    (dIdx (xb1 (toV (W2 m)) d (ptOf b p)) (eb1 (toV (W2 m)) d) (nb1 (toV (W2 m)) d) (sb1 (toV (W2 m)) d (ptOf b p))
        (ix3 0 0 ⟨p.val % 512, Nat.mod_lt _ (by decide)⟩)).toNat = (ni A E ⟨b.val + 8, by omega⟩ p).val
    ∧ mAll (xb1 (toV (W2 m)) d (ptOf b p)) (eb1 (toV (W2 m)) d) (nb1 (toV (W2 m)) d) (sb1 (toV (W2 m)) d (ptOf b p))
        ⟨p.val % 512, Nat.mod_lt _ (by decide)⟩ = ((sq A E ⟨b.val + 8, by omega⟩ p : ℝ) : EReal) := by
  have h0 : toV (W2 m) d main_v0 = _ := (W2_ne m d main_v0 (by decide) (by decide) (by decide)).trans (W1_v0 m d)
  have h8 : toV (W2 m) d main_v8 = _ := (W2_ne m d main_v8 (by decide) (by decide) (by decide)).trans (W1_v8 m d)
  have h1 : (toV (W2 m)) d main_arg1 = upE E := (W2_ne m d main_arg1 (by decide) (by decide) (by decide)).trans ((W1_arg1 m d).trans hE)
  refine pixel A E ⟨b.val + 8, by omega⟩ p _ _ _ _ _ (fun c => ?_) (fun k c => ?_) (fun k => ?_) ?_
  · rw [xb1_at, h0, flat_at, hA]
    rfl
  · exact congrFun h1 _
  · have h3 : nb1 (toV (W2 m)) d = norms (upE E) :=
      (W2_ne m d main_v3 (by decide) (by decide) (by decide)).trans ((W1_v3 m d).trans (congrArg norms hE))
    rw [h3, norms_at]
    rfl
  · rw [sb1_at, h8, squares_at]
    simp only [pixels_at, hA]
    rfl

/-! ## The second result -/

theorem et_at (c : Fin 64) (k : Fin 1024) : out0_et (toV (W1 m)) d (ix2 c k) = ((E (ix2 k c) : ℝ) : EReal) := by
  have h1 : eb0 (toV (W1 m)) d = upE E := (W1_arg1 m d).trans hE
  have hp : ∀ e : FVec Ideal S1024x64 .f32, k0_pay1 e (ix2 c k) = e (ix2 k c) := fun e => by pointwise [k0_pay1]
  rw [out0_et_eq, h1, hp]
  rfl

theorem got0 (b : Fin 8) (c : Fin 64) (p : Fin 1024) :
    gath (out0_et (toV (W1 m)) d) (out0_idx (toV (W1 m)) d) (ix3 b c p) = ((E (ix2 (ni A E ⟨b.val, by omega⟩ p) c) : ℝ) : EReal) := by
  have hi : (out0_idx (toV (W1 m)) d (ix3 b 0 p) : BitVec 32).toNat = (ni A E ⟨b.val, by omega⟩ p).val :=
    (congrArg BitVec.toNat (out0_idx_at (toV (W1 m)) d (ix3 b 0 p))).trans (pixel0 m A E d hA hE b p).1
  refine (et_at m A E d hA hE c _).trans ?_
  have hk : (⟨(out0_idx (toV (W1 m)) d (ix3 b 0 p) : BitVec 32).toNat % 1024, Nat.mod_lt _ (by decide)⟩ : Fin 1024) = ni A E ⟨b.val, by omega⟩ p :=
    Fin.ext (by rw [hi]; exact Nat.mod_eq_of_lt (Fin.isLt _))
  exact congrArg (fun k => ((E (ix2 k c) : ℝ) : EReal)) hk

theorem got1 (b : Fin 8) (c : Fin 64) (p : Fin 1024) :
    gath (out0_et (toV (W1 m)) d) (out1_idx (toV (W2 m)) d) (ix3 b c p) = ((E (ix2 (ni A E ⟨b.val + 8, by omega⟩ p) c) : ℝ) : EReal) := by
  have hi : (out1_idx (toV (W2 m)) d (ix3 b 0 p) : BitVec 32).toNat = (ni A E ⟨b.val + 8, by omega⟩ p).val :=
    (congrArg BitVec.toNat (out1_idx_at (toV (W2 m)) d (ix3 b 0 p))).trans (pixel1 m A E d hA hE b p).1
  refine (et_at m A E d hA hE c _).trans ?_
  have hk : (⟨(out1_idx (toV (W2 m)) d (ix3 b 0 p) : BitVec 32).toNat % 1024, Nat.mod_lt _ (by decide)⟩ : Fin 1024) = ni A E ⟨b.val + 8, by omega⟩ p :=
    Fin.ext (by rw [hi]; exact Nat.mod_eq_of_lt (Fin.isLt _))
  exact congrArg (fun k => ((E (ix2 k c) : ℝ) : EReal)) hk

end

/-- Two halves of the batch, end to end, as an image. -/
def joined (u v : FVec Ideal S8x64x1024 .f32) : FVec Ideal S16x64x32x32 .f32 :=
  shapeCast S16x64x32x32 (concatenate S16x64x1024 0 [⟨S8x64x1024, u⟩, ⟨S8x64x1024, v⟩] concatenates_S8x64x1024_S8x64x1024_S16x64x1024_d0)
    shapeCasts_S16x64x1024_S16x64x32x32

theorem joined_at (u v : FVec Ideal S8x64x1024 .f32) (b : Fin 16) (c : Fin 64) (h w : Fin 32) :
    joined u v (ix4 b c h w) = if hb : b.val < 8 then u (ix3 ⟨b.val, hb⟩ c ⟨h.val * 32 + w.val, by omega⟩)
      else v (ix3 ⟨b.val - 8, by omega⟩ c ⟨h.val * 32 + w.val, by omega⟩) := by
  unfold joined
  pointwise

theorem W6_v18 : W6 m d (Proc.devRef .tc main_v18)
    = joined (gath (out0_et (toV (W1 m)) d) (out0_idx (toV (W1 m)) d)) (gath (out0_et (toV (W1 m)) d) (out1_idx (toV (W2 m)) d)) := by
  have h11 : W5 m d (Proc.devRef .tc main_v11) = gath (out0_et (toV (W1 m)) d) (out0_idx (toV (W1 m)) d) := by
    unfold W5; rw [put_ne _ _ _ _ (by decide)]; unfold W4; rw [put_self]
  have h12 : W5 m d (Proc.devRef .tc main_v12) = gath (out0_et (toV (W1 m)) d) (out1_idx (toV (W2 m)) d) := by
    unfold W5; rw [put_self]
  have h : W6 m d (Proc.devRef .tc main_v18) = joined (W5 m d (Proc.devRef .tc main_v11)) (W5 m d (Proc.devRef .tc main_v12)) := by
    unfold W6 ops2; after_results
    rfl
  rw [h, h11, h12]

/-- **The second result** is the reference's. -/
theorem second (hA : imgOf m d = upA A) (hE : bookOf m d = upE E) : W6 m d (Proc.devRef .tc main_v18) = Ref.out (upA A) (upE E) := by
  rw [W6_v18]
  funext x
  rw [eq_ix4 x]
  refine Eq.trans ?_ (Ref.out_real A E (x 0) (x 2) (x 3) (x 1)).symm
  refine (joined_at _ _ (x 0) (x 1) (x 2) (x 3)).trans ?_
  split
  · exact got0 m A E d hA hE _ _ _
  · rename_i hb
    refine (got1 m A E d hA hE _ _ _).trans ?_
    have : (⟨(x 0).val - 8 + 8, by have := (x 0).isLt; change _ < 16 at this; omega⟩ : Fin 16) = x 0 := Fin.ext (by show (x 0).val - 8 + 8 = (x 0).val; omega)
    exact congrArg (fun b => ((E (ix2 (ni A E b _) _) : ℝ) : EReal)) this

end Cert.Proof
-- ==== Proof.Loss.lean ====
/-
  The kernel's first result over real arrays: both calls' totals are the sum of every pixel's least squared distance.
-/
module

public import proofs.«01_k».proof.Proof.Result

@[expose] public section

noncomputable section

namespace Cert.Proof

open Cert.KernelIdeal Cert.KernelIdeal.Gen

open Idealize.ShloMosaic
open Idealize.ShloMosaic.TcCoe Idealize.ShloMosaic.Tactic
open Idealize.ShloMosaic.StableHlo (after after_cons after_nil)
open Cert.Proof.Ref (pr ni sq sqd upA upE coe_sum)

/-! ## Sums in blocks -/

/-- A sum in `m` blocks of `n` is the sum of all. -/
theorem sum_blocks (f : ℕ → ℝ) (m n : ℕ) : ∑ i ∈ Finset.range m, ∑ j ∈ Finset.range n, f (i * n + j) = ∑ k ∈ Finset.range (m * n), f k := by
  induction m with
  | zero => simp
  | succ m ih => rw [Finset.sum_range_succ, ih, Nat.succ_mul, Finset.sum_range_add]

variable (m : (ℓ : Loc nD τ sig) → Buf (Elt Ideal) ℓ) (A : S16x64x32x32.Idx → ℝ) (E : S1024x64.Idx → ℝ) (d : Dev nD)

/-- Row `r`'s least squared distance. -/
def least (r : ℕ) : ℝ := sq A E ⟨r / 1024 % 16, Nat.mod_lt _ (by decide)⟩ ⟨r % 1024, Nat.mod_lt _ (by decide)⟩

theorem least_at (b : Fin 16) (p : Fin 1024) (r : ℕ) (h : r = b.val * 1024 + p.val) : least A E r = sq A E b p := by
  have hb := b.isLt
  have hp := p.isLt
  unfold least
  congr 1
  · exact Fin.ext (by show r / 1024 % 16 = b.val; omega)
  · exact Fin.ext (by show r % 1024 = p.val; omega)

/-- The sum over the image's places. -/
theorem sum_places : ∑ b : Fin 16, ∑ h : Fin 32, ∑ w : Fin 32, sq A E b ⟨h.val * 32 + w.val, by omega⟩
    = ∑ r ∈ Finset.range 16384, least A E r := by
  have h3 : ∀ b : Fin 16, ∑ h : Fin 32, ∑ w : Fin 32, sq A E b ⟨h.val * 32 + w.val, by omega⟩
      = ∑ p ∈ Finset.range 1024, least A E (b.val * 1024 + p) := by
    intro b
    refine Eq.trans ?_ (sum_blocks (fun p => least A E (b.val * 1024 + p)) 32 32)
    rw [Finset.sum_range]
    refine Finset.sum_congr rfl fun h _ => ?_
    rw [Finset.sum_range]
    exact Finset.sum_congr rfl fun w _ => (least_at A E b _ _ rfl).symm
  rw [Finset.sum_congr rfl fun b _ => h3 b, ← Finset.sum_range (fun b => ∑ p ∈ Finset.range 1024, least A E (b * 1024 + p))]
  exact sum_blocks (least A E) 16 1024

/-! ## The totals -/

/-- A point's pixel: its image among a call's eight, and its place there. -/
theorem pt_split (t : Fin 16) (j : Fin 512) : ∃ (b : Fin 8) (p : Fin 1024), ptOf b p = t ∧ (⟨p.val % 512, Nat.mod_lt _ (by decide)⟩ : Fin 512) = j
    ∧ b.val * 1024 + p.val = t.val * 512 + j.val := by
  refine ⟨⟨t.val / 2, by omega⟩, ⟨t.val % 2 * 512 + j.val, by omega⟩, ?_, ?_, ?_⟩
  · exact Fin.ext (by show 2 * (t.val / 2) + (t.val % 2 * 512 + j.val) / 512 = t.val; omega)
  · exact Fin.ext (by show (t.val % 2 * 512 + j.val) % 512 = j.val; omega)
  · show t.val / 2 * 1024 + (t.val % 2 * 512 + j.val) = _
    omega

theorem pay19_at : (k0_pay19 : FVec Ideal S1x1 .f32) (ix2 0 0) = ((0 : ℝ) : EReal) := by
  pointwise [k0_pay19]
  exact EReal.coe_zero.symm

/-- A running total that grows by its points' sums. -/
theorem total (T : ℕ → Vec Ideal S1x1 .f32) (o : ℕ) (h0 : T 0 (ix2 0 0) = ((0 : ℝ) : EReal))
    (hs : ∀ t : Fin 16, T (t.val + 1) (ix2 0 0) = T t.val (ix2 0 0) + ∑ j : Fin 512, ((least A E (o + (t.val * 512 + j.val)) : ℝ) : EReal)) :
    ∀ n, n ≤ 16 → T n (ix2 0 0) = ((∑ i ∈ Finset.range n, ∑ j ∈ Finset.range 512, least A E (o + (i * 512 + j)) : ℝ) : EReal) := by
  intro n
  induction n with
  | zero => intro _; rw [h0]; simp
  | succ n ih =>
    intro hn
    rw [hs ⟨n, by omega⟩, ih (by omega), coe_sum, ← EReal.coe_add, Finset.sum_range_succ,
      Finset.sum_range (fun j => least A E (o + (n * 512 + j)))]

theorem total_all (T : ℕ → Vec Ideal S1x1 .f32) (o : ℕ) (h0 : T 0 (ix2 0 0) = ((0 : ℝ) : EReal))
    (hs : ∀ t : Fin 16, T (t.val + 1) (ix2 0 0) = T t.val (ix2 0 0) + ∑ j : Fin 512, ((least A E (o + (t.val * 512 + j.val)) : ℝ) : EReal)) :
    T 16 (ix2 0 0) = ((∑ k ∈ Finset.range 8192, least A E (o + k) : ℝ) : EReal) := by
  rw [total A E T o h0 hs 16 le_rfl, sum_blocks (fun k => least A E (o + k)) 16 512]

section
variable (hA : imgOf m d = upA A) (hE : bookOf m d = upE E)
include hA hE

theorem loss0 : out0_loss (toV (W1 m)) d (ix2 0 0) = ((∑ k ∈ Finset.range 8192, least A E (0 + k) : ℝ) : EReal) := by
  rw [out0_loss_eq]
  refine total_all A E (tot0 (toV (W1 m)) d) 0 pay19_at fun t => ?_
  refine (congrFun (tot0_succ (toV (W1 m)) d t) _).trans ((dLoss_eq _ _ _ _ _).trans (congrArg (_ + ·) (Finset.sum_congr rfl fun j _ => ?_)))
  obtain ⟨b, p, rfl, rfl, h⟩ := pt_split t j
  rw [(pixel0 m A E d hA hE b p).2, least_at A E ⟨b.val, by omega⟩ p _ (by rw [← h]; exact Nat.zero_add _)]

theorem loss1 : out1_loss (toV (W2 m)) d (ix2 0 0) = ((∑ k ∈ Finset.range 8192, least A E (8192 + k) : ℝ) : EReal) := by
  rw [out1_loss_eq]
  refine total_all A E (tot1 (toV (W2 m)) d) 8192 pay19_at fun t => ?_
  refine (congrFun (tot1_succ (toV (W2 m)) d t) _).trans ((dLoss_eq _ _ _ _ _).trans (congrArg (_ + ·) (Finset.sum_congr rfl fun j _ => ?_)))
  obtain ⟨b, p, rfl, rfl, h⟩ := pt_split t j
  rw [(pixel1 m A E d hA hE b p).2, least_at A E ⟨b.val + 8, by omega⟩ p _ (by rw [← h]; show _ = (b.val + 8) * 1024 + p.val; omega)]

end

/-! ## The first result -/

/-- The scaled sum of two totals. -/
def scaled (u v : FVec Ideal S1x1 .f32) : FVec Ideal S_ .f32 :=
  mulf (constant S_ .f32 0x35A00000#32) (addf (shapeCast S_ u shapeCasts_S1x1_S_) (shapeCast S_ v shapeCasts_S1x1_S_))

theorem scaled_at (u v : FVec Ideal S1x1 .f32) : scaled u v ix0 = Ideal.ofBits .f32 0x35A00000#32 * (u (ix2 0 0) + v (ix2 0 0)) := by
  unfold scaled
  pointwise

theorem ofBits_scale : Ideal.ofBits .f32 0x35A00000#32 = ((5 / 4 / 1048576 : ℝ) : EReal) := by
  simp only [Ideal.ofBits, Ideal.ieee]; simp; rw [← EReal.coe_mul]; norm_num

theorem W6_v16 : W6 m d (Proc.devRef .tc main_v16) = scaled (out0_loss (toV (W1 m)) d) (out1_loss (toV (W2 m)) d) := by
  have h9 : W5 m d (Proc.devRef .tc main_v9_1) = out0_loss (toV (W1 m)) d := by
    unfold W5; rw [put_ne _ _ _ _ (by decide)]; unfold W4; rw [put_ne _ _ _ _ (by decide), W3_ne _ _ _ (by decide) (by decide), W2_v9_1]
  have h10 : W5 m d (Proc.devRef .tc main_v10_1) = out1_loss (toV (W2 m)) d := by
    unfold W5; rw [put_ne _ _ _ _ (by decide)]; unfold W4; rw [put_ne _ _ _ _ (by decide), W3_v10_1]
  have h : W6 m d (Proc.devRef .tc main_v16) = scaled (W5 m d (Proc.devRef .tc main_v9_1)) (W5 m d (Proc.devRef .tc main_v10_1)) := by
    unfold W6 ops2; after_results
    rfl
  rw [h, h9, h10]

/-- **The first result** is the reference's. -/
theorem first (hA : imgOf m d = upA A) (hE : bookOf m d = upE E) : W6 m d (Proc.devRef .tc main_v16) = Ref.loss (upA A) (upE E) := by
  rw [W6_v16]
  funext x
  rw [← ix0_eta x]
  refine (scaled_at _ _).trans (Eq.trans ?_ (Ref.loss_real A E).symm)
  rw [loss0 m A E d hA hE, loss1 m A E d hA hE, ofBits_scale, ← EReal.coe_add, ← EReal.coe_mul, sum_places,
    show (16384 : ℕ) = 8192 + 8192 from rfl, Finset.sum_range_add]
  simp only [Nat.zero_add]

/-- **Both results**, of arguments all of whose entries are real. -/
theorem results (a : FVec Ideal S16x64x32x32 .f32) (e : FVec Ideal S1024x64 .f32) (ha : ∀ i, ∃ r : ℝ, a i = r) (he : ∀ i, ∃ r : ℝ, e i = r)
    (hA : imgOf m d = a) (hE : bookOf m d = e) :
    W6 m d (Proc.devRef .tc main_v16) = Ref.loss a e ∧ W6 m d (Proc.devRef .tc main_v18) = Ref.out a e := by
  choose A hA' using ha
  choose E hE' using he
  obtain rfl : a = upA A := funext hA'
  obtain rfl : e = upE E := funext hE'
  exact ⟨first m A E d hA hE, second m A E d hA hE⟩

end Cert.Proof
-- ==== Proof.lean ====
/-
  The certificate: the kernel's run over the extended reals (proof/Proof/Frames.lean), the reference's run (RefRun.lean), and the
  equality of the two programs' results for real arrays (Loss.lean).
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import proofs.«01_k».proof.Proof.Finite
public import proofs.«01_k».proof.Proof.Loss
public import Idealize.ShloMosaic.Adequacy
public import Idealize.ShloMosaic.Init

@[expose] public section

noncomputable section

namespace Cert.Proof

open Idealize.ShloMosaic Idealize.SL.Sem

theorem frame_kernel (m : (ℓ : Loc KernelIdeal.nD KernelIdeal.τ KernelIdeal.sig) → Buf (Elt Ideal) ℓ) (g : Dev KernelIdeal.nD → PrngReg) :
    θ_run (KernelIdeal.defs (F := Ideal)) KernelIdeal.threads ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  θ_run_mono (kernel_run m g) fun r h => ⟨fun c => ⟨(h.1 c).2.2.1, (h.1 c).2.2.2⟩, h.2⟩

theorem claim : Cert.Claim := ⟨Cert.KernelIdeal.Gen.facts, Cert.ReferenceIdeal.Gen.facts, Cert.Pre_finite.Gen.facts,
  fun m g _ => frame_kernel m g, fun m g _ => frame_kernel m g, fun m g _ => Ref.run_frame m g, fun m g _ => Ref.run_frame m g,
  fun m g m' g' hp heq => by
    have hr : ∀ c : Dev KernelIdeal.nD, W6 m c (Proc.devRef .tc KernelIdeal.main_v16) = Ref.loss (m' ((c.tc : Thread ReferenceIdeal.nD ReferenceIdeal.τ).loc ReferenceIdeal.main_arg0)) (m' ((c.tc : Thread ReferenceIdeal.nD ReferenceIdeal.τ).loc ReferenceIdeal.main_arg1))
        ∧ W6 m c (Proc.devRef .tc KernelIdeal.main_v18) = Ref.out (m' ((c.tc : Thread ReferenceIdeal.nD ReferenceIdeal.τ).loc ReferenceIdeal.main_arg0)) (m' ((c.tc : Thread ReferenceIdeal.nD ReferenceIdeal.τ).loc ReferenceIdeal.main_arg1)) := fun c => by
      obtain ⟨ha, he⟩ := Fin.finite (hp c)
      rw [(heq c).1, (heq c).2]
      exact results m c _ _ ha he rfl rfl
    refine ⟨fun c => W6 m c (Proc.devRef .tc KernelIdeal.main_v16), fun c => W6 m c (Proc.devRef .tc KernelIdeal.main_v18),
      θ_run_mono (kernel_run m g) fun r h => h.1, θ_run_mono (Ref.run m' g') fun r h c => ?_⟩
    obtain ⟨h0, h1, h2, h3⟩ := h c
    exact ⟨h2.trans (hr c).1.symm, h3.trans (hr c).2.symm, h0, h1⟩⟩

end Cert.Proof

end
